-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_nonzero_scale [hPre_nonzero_scale : Cert.Pre_nonzero_scale.Facts] (m : (ℓ : Loc Cert.QkvIdeal.nD Cert.QkvIdeal.τ Cert.QkvIdeal.sig) → Buf (Elt Ideal) ℓ) : Prop :=
  ∀ c : Dev Cert.QkvIdeal.nD,
    (Cert.Pre_nonzero_scale.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10)) (m ((c.tc : Thread Cert.QkvIdeal.nD Cert.QkvIdeal.τ).loc Cert.QkvIdeal.main_arg11)) (m ((c.tc : Thread Cert.QkvIdeal.nD Cert.QkvIdeal.τ).loc Cert.QkvIdeal.main_arg12))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_nonzero_scale [hPre_nonzero_scale : Cert.Pre_nonzero_scale.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_nonzero_scale.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10)) (m ((c.tc : Thread Cert.QkvRefIdeal.nD Cert.QkvRefIdeal.τ).loc Cert.QkvRefIdeal.main_arg11)) (m ((c.tc : Thread Cert.QkvRefIdeal.nD Cert.QkvRefIdeal.τ).loc Cert.QkvRefIdeal.main_arg12))) = (fun _ => 1#1)

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuIdeal_proper_scales [hPre_proper_scales : Cert.Pre_proper_scales.Facts] (m : (ℓ : Loc Cert.GuIdeal.nD Cert.GuIdeal.τ Cert.GuIdeal.sig) → Buf (Elt Ideal) ℓ) : Prop :=
  ∀ c : Dev Cert.GuIdeal.nD,
    (Cert.Pre_proper_scales.fn (F := Ideal) (m ((c.tc : Thread Cert.GuIdeal.nD Cert.GuIdeal.τ).loc Cert.GuIdeal.main_arg0)) (m ((c.tc : Thread Cert.GuIdeal.nD Cert.GuIdeal.τ).loc Cert.GuIdeal.main_arg1)) (m ((c.tc : Thread Cert.GuIdeal.nD Cert.GuIdeal.τ).loc Cert.GuIdeal.main_arg2)) (m ((c.tc : Thread Cert.GuIdeal.nD Cert.GuIdeal.τ).loc Cert.GuIdeal.main_arg3)) (m ((c.tc : Thread Cert.GuIdeal.nD Cert.GuIdeal.τ).loc Cert.GuIdeal.main_arg4)) (m ((c.tc : Thread Cert.GuIdeal.nD Cert.GuIdeal.τ).loc Cert.GuIdeal.main_arg5)) (m ((c.tc : Thread Cert.GuIdeal.nD Cert.GuIdeal.τ).loc Cert.GuIdeal.main_arg6)) (m ((c.tc : Thread Cert.GuIdeal.nD Cert.GuIdeal.τ).loc Cert.GuIdeal.main_arg7)) (m ((c.tc : Thread Cert.GuIdeal.nD Cert.GuIdeal.τ).loc Cert.GuIdeal.main_arg8)) (m ((c.tc : Thread Cert.GuIdeal.nD Cert.GuIdeal.τ).loc Cert.GuIdeal.main_arg9))) = (fun _ => 1#1)

def Pre_GuRefIdeal (m : (ℓ : Loc Cert.GuRefIdeal.nD Cert.GuRefIdeal.τ Cert.GuRefIdeal.sig) → Buf (Elt Ideal) ℓ) : Prop :=
  True

def Pre_GuRefIdeal_proper_scales [hPre_proper_scales : Cert.Pre_proper_scales.Facts] (m : (ℓ : Loc Cert.GuRefIdeal.nD Cert.GuRefIdeal.τ Cert.GuRefIdeal.sig) → Buf (Elt Ideal) ℓ) : Prop :=
  ∀ c : Dev Cert.GuRefIdeal.nD,
    (Cert.Pre_proper_scales.fn (F := Ideal) (m ((c.tc : Thread Cert.GuRefIdeal.nD Cert.GuRefIdeal.τ).loc Cert.GuRefIdeal.main_arg0)) (m ((c.tc : Thread Cert.GuRefIdeal.nD Cert.GuRefIdeal.τ).loc Cert.GuRefIdeal.main_arg1)) (m ((c.tc : Thread Cert.GuRefIdeal.nD Cert.GuRefIdeal.τ).loc Cert.GuRefIdeal.main_arg2)) (m ((c.tc : Thread Cert.GuRefIdeal.nD Cert.GuRefIdeal.τ).loc Cert.GuRefIdeal.main_arg3)) (m ((c.tc : Thread Cert.GuRefIdeal.nD Cert.GuRefIdeal.τ).loc Cert.GuRefIdeal.main_arg4)) (m ((c.tc : Thread Cert.GuRefIdeal.nD Cert.GuRefIdeal.τ).loc Cert.GuRefIdeal.main_arg5)) (m ((c.tc : Thread Cert.GuRefIdeal.nD Cert.GuRefIdeal.τ).loc Cert.GuRefIdeal.main_arg6)) (m ((c.tc : Thread Cert.GuRefIdeal.nD Cert.GuRefIdeal.τ).loc Cert.GuRefIdeal.main_arg7)) (m ((c.tc : Thread Cert.GuRefIdeal.nD Cert.GuRefIdeal.τ).loc Cert.GuRefIdeal.main_arg8)) (m ((c.tc : Thread Cert.GuRefIdeal.nD Cert.GuRefIdeal.τ).loc Cert.GuRefIdeal.main_arg9))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11)
      ∧ r.2.mem ((c.tc : Thread Cert.Qkv.nD Cert.Qkv.τ).loc Cert.Qkv.main_arg12) = m ((c.tc : Thread Cert.Qkv.nD Cert.Qkv.τ).loc Cert.Qkv.main_arg12))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ r.2.sem = fun _ => 0)

def quiescent_QkvIdeal_pre_nonzero_scale [hQkvIdeal : Cert.QkvIdeal.Facts] [hPre_nonzero_scale : Cert.Pre_nonzero_scale.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_nonzero_scale m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11)
      ∧ r.2.mem ((c.tc : Thread Cert.QkvRefIdeal.nD Cert.QkvRefIdeal.τ).loc Cert.QkvRefIdeal.main_arg12) = m ((c.tc : Thread Cert.QkvRefIdeal.nD Cert.QkvRefIdeal.τ).loc Cert.QkvRefIdeal.main_arg12))
      ∧ r.2.sem = fun _ => 0)

def quiescent_QkvRefIdeal_pre_nonzero_scale [hQkvRefIdeal : Cert.QkvRefIdeal.Facts] [hPre_nonzero_scale : Cert.Pre_nonzero_scale.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_nonzero_scale m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11)
      ∧ r.2.mem ((c.tc : Thread Cert.QkvRefIdeal.nD Cert.QkvRefIdeal.τ).loc Cert.QkvRefIdeal.main_arg12) = m ((c.tc : Thread Cert.QkvRefIdeal.nD Cert.QkvRefIdeal.τ).loc Cert.QkvRefIdeal.main_arg12))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2)
      ∧ r.2.mem ((c.tc : Thread Cert.Gu.nD Cert.Gu.τ).loc Cert.Gu.main_arg3) = m ((c.tc : Thread Cert.Gu.nD Cert.Gu.τ).loc Cert.Gu.main_arg3)
      ∧ r.2.mem ((c.tc : Thread Cert.Gu.nD Cert.Gu.τ).loc Cert.Gu.main_arg4) = m ((c.tc : Thread Cert.Gu.nD Cert.Gu.τ).loc Cert.Gu.main_arg4)
      ∧ r.2.mem ((c.tc : Thread Cert.Gu.nD Cert.Gu.τ).loc Cert.Gu.main_arg5) = m ((c.tc : Thread Cert.Gu.nD Cert.Gu.τ).loc Cert.Gu.main_arg5)
      ∧ r.2.mem ((c.tc : Thread Cert.Gu.nD Cert.Gu.τ).loc Cert.Gu.main_arg6) = m ((c.tc : Thread Cert.Gu.nD Cert.Gu.τ).loc Cert.Gu.main_arg6)
      ∧ r.2.mem ((c.tc : Thread Cert.Gu.nD Cert.Gu.τ).loc Cert.Gu.main_arg7) = m ((c.tc : Thread Cert.Gu.nD Cert.Gu.τ).loc Cert.Gu.main_arg7)
      ∧ r.2.mem ((c.tc : Thread Cert.Gu.nD Cert.Gu.τ).loc Cert.Gu.main_arg8) = m ((c.tc : Thread Cert.Gu.nD Cert.Gu.τ).loc Cert.Gu.main_arg8)
      ∧ r.2.mem ((c.tc : Thread Cert.Gu.nD Cert.Gu.τ).loc Cert.Gu.main_arg9) = m ((c.tc : Thread Cert.Gu.nD Cert.Gu.τ).loc Cert.Gu.main_arg9))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
      ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
      ∧ r.2.mem ((c.tc : Thread Cert.GuIdeal.nD Cert.GuIdeal.τ).loc Cert.GuIdeal.main_arg4) = m ((c.tc : Thread Cert.GuIdeal.nD Cert.GuIdeal.τ).loc Cert.GuIdeal.main_arg4)
      ∧ r.2.mem ((c.tc : Thread Cert.GuIdeal.nD Cert.GuIdeal.τ).loc Cert.GuIdeal.main_arg5) = m ((c.tc : Thread Cert.GuIdeal.nD Cert.GuIdeal.τ).loc Cert.GuIdeal.main_arg5)
      ∧ r.2.mem ((c.tc : Thread Cert.GuIdeal.nD Cert.GuIdeal.τ).loc Cert.GuIdeal.main_arg6) = m ((c.tc : Thread Cert.GuIdeal.nD Cert.GuIdeal.τ).loc Cert.GuIdeal.main_arg6)
      ∧ r.2.mem ((c.tc : Thread Cert.GuIdeal.nD Cert.GuIdeal.τ).loc Cert.GuIdeal.main_arg7) = m ((c.tc : Thread Cert.GuIdeal.nD Cert.GuIdeal.τ).loc Cert.GuIdeal.main_arg7)
      ∧ r.2.mem ((c.tc : Thread Cert.GuIdeal.nD Cert.GuIdeal.τ).loc Cert.GuIdeal.main_arg8) = m ((c.tc : Thread Cert.GuIdeal.nD Cert.GuIdeal.τ).loc Cert.GuIdeal.main_arg8)
      ∧ r.2.mem ((c.tc : Thread Cert.GuIdeal.nD Cert.GuIdeal.τ).loc Cert.GuIdeal.main_arg9) = m ((c.tc : Thread Cert.GuIdeal.nD Cert.GuIdeal.τ).loc Cert.GuIdeal.main_arg9))
      ∧ r.2.sem = fun _ => 0)

def quiescent_GuIdeal_pre_proper_scales [hGuIdeal : Cert.GuIdeal.Facts] [hPre_proper_scales : Cert.Pre_proper_scales.Facts] : Prop :=
  ∀ (m : (ℓ : Loc Cert.GuIdeal.nD Cert.GuIdeal.τ Cert.GuIdeal.sig) → Buf (Elt Ideal) ℓ) (g : Dev Cert.GuIdeal.nD → PrngReg), Pre_GuIdeal_proper_scales m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
      ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
      ∧ r.2.mem ((c.tc : Thread Cert.GuIdeal.nD Cert.GuIdeal.τ).loc Cert.GuIdeal.main_arg4) = m ((c.tc : Thread Cert.GuIdeal.nD Cert.GuIdeal.τ).loc Cert.GuIdeal.main_arg4)
      ∧ r.2.mem ((c.tc : Thread Cert.GuIdeal.nD Cert.GuIdeal.τ).loc Cert.GuIdeal.main_arg5) = m ((c.tc : Thread Cert.GuIdeal.nD Cert.GuIdeal.τ).loc Cert.GuIdeal.main_arg5)
      ∧ r.2.mem ((c.tc : Thread Cert.GuIdeal.nD Cert.GuIdeal.τ).loc Cert.GuIdeal.main_arg6) = m ((c.tc : Thread Cert.GuIdeal.nD Cert.GuIdeal.τ).loc Cert.GuIdeal.main_arg6)
      ∧ r.2.mem ((c.tc : Thread Cert.GuIdeal.nD Cert.GuIdeal.τ).loc Cert.GuIdeal.main_arg7) = m ((c.tc : Thread Cert.GuIdeal.nD Cert.GuIdeal.τ).loc Cert.GuIdeal.main_arg7)
      ∧ r.2.mem ((c.tc : Thread Cert.GuIdeal.nD Cert.GuIdeal.τ).loc Cert.GuIdeal.main_arg8) = m ((c.tc : Thread Cert.GuIdeal.nD Cert.GuIdeal.τ).loc Cert.GuIdeal.main_arg8)
      ∧ r.2.mem ((c.tc : Thread Cert.GuIdeal.nD Cert.GuIdeal.τ).loc Cert.GuIdeal.main_arg9) = m ((c.tc : Thread Cert.GuIdeal.nD Cert.GuIdeal.τ).loc Cert.GuIdeal.main_arg9))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2)
      ∧ r.2.mem ((c.tc : Thread Cert.GuRefIdeal.nD Cert.GuRefIdeal.τ).loc Cert.GuRefIdeal.main_arg3) = m ((c.tc : Thread Cert.GuRefIdeal.nD Cert.GuRefIdeal.τ).loc Cert.GuRefIdeal.main_arg3)
      ∧ r.2.mem ((c.tc : Thread Cert.GuRefIdeal.nD Cert.GuRefIdeal.τ).loc Cert.GuRefIdeal.main_arg4) = m ((c.tc : Thread Cert.GuRefIdeal.nD Cert.GuRefIdeal.τ).loc Cert.GuRefIdeal.main_arg4)
      ∧ r.2.mem ((c.tc : Thread Cert.GuRefIdeal.nD Cert.GuRefIdeal.τ).loc Cert.GuRefIdeal.main_arg5) = m ((c.tc : Thread Cert.GuRefIdeal.nD Cert.GuRefIdeal.τ).loc Cert.GuRefIdeal.main_arg5)
      ∧ r.2.mem ((c.tc : Thread Cert.GuRefIdeal.nD Cert.GuRefIdeal.τ).loc Cert.GuRefIdeal.main_arg6) = m ((c.tc : Thread Cert.GuRefIdeal.nD Cert.GuRefIdeal.τ).loc Cert.GuRefIdeal.main_arg6)
      ∧ r.2.mem ((c.tc : Thread Cert.GuRefIdeal.nD Cert.GuRefIdeal.τ).loc Cert.GuRefIdeal.main_arg7) = m ((c.tc : Thread Cert.GuRefIdeal.nD Cert.GuRefIdeal.τ).loc Cert.GuRefIdeal.main_arg7)
      ∧ r.2.mem ((c.tc : Thread Cert.GuRefIdeal.nD Cert.GuRefIdeal.τ).loc Cert.GuRefIdeal.main_arg8) = m ((c.tc : Thread Cert.GuRefIdeal.nD Cert.GuRefIdeal.τ).loc Cert.GuRefIdeal.main_arg8)
      ∧ r.2.mem ((c.tc : Thread Cert.GuRefIdeal.nD Cert.GuRefIdeal.τ).loc Cert.GuRefIdeal.main_arg9) = m ((c.tc : Thread Cert.GuRefIdeal.nD Cert.GuRefIdeal.τ).loc Cert.GuRefIdeal.main_arg9))
      ∧ r.2.sem = fun _ => 0)

def quiescent_GuRefIdeal_pre_proper_scales [hGuRefIdeal : Cert.GuRefIdeal.Facts] [hPre_proper_scales : Cert.Pre_proper_scales.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal_proper_scales m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2)
      ∧ r.2.mem ((c.tc : Thread Cert.GuRefIdeal.nD Cert.GuRefIdeal.τ).loc Cert.GuRefIdeal.main_arg3) = m ((c.tc : Thread Cert.GuRefIdeal.nD Cert.GuRefIdeal.τ).loc Cert.GuRefIdeal.main_arg3)
      ∧ r.2.mem ((c.tc : Thread Cert.GuRefIdeal.nD Cert.GuRefIdeal.τ).loc Cert.GuRefIdeal.main_arg4) = m ((c.tc : Thread Cert.GuRefIdeal.nD Cert.GuRefIdeal.τ).loc Cert.GuRefIdeal.main_arg4)
      ∧ r.2.mem ((c.tc : Thread Cert.GuRefIdeal.nD Cert.GuRefIdeal.τ).loc Cert.GuRefIdeal.main_arg5) = m ((c.tc : Thread Cert.GuRefIdeal.nD Cert.GuRefIdeal.τ).loc Cert.GuRefIdeal.main_arg5)
      ∧ r.2.mem ((c.tc : Thread Cert.GuRefIdeal.nD Cert.GuRefIdeal.τ).loc Cert.GuRefIdeal.main_arg6) = m ((c.tc : Thread Cert.GuRefIdeal.nD Cert.GuRefIdeal.τ).loc Cert.GuRefIdeal.main_arg6)
      ∧ r.2.mem ((c.tc : Thread Cert.GuRefIdeal.nD Cert.GuRefIdeal.τ).loc Cert.GuRefIdeal.main_arg7) = m ((c.tc : Thread Cert.GuRefIdeal.nD Cert.GuRefIdeal.τ).loc Cert.GuRefIdeal.main_arg7)
      ∧ r.2.mem ((c.tc : Thread Cert.GuRefIdeal.nD Cert.GuRefIdeal.τ).loc Cert.GuRefIdeal.main_arg8) = m ((c.tc : Thread Cert.GuRefIdeal.nD Cert.GuRefIdeal.τ).loc Cert.GuRefIdeal.main_arg8)
      ∧ r.2.mem ((c.tc : Thread Cert.GuRefIdeal.nD Cert.GuRefIdeal.τ).loc Cert.GuRefIdeal.main_arg9) = m ((c.tc : Thread Cert.GuRefIdeal.nD Cert.GuRefIdeal.τ).loc Cert.GuRefIdeal.main_arg9))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_Qkv_QkvIdeal : Prop :=
  IdealRules.named_const.Statement Cert.QkvIdeal.κ "inv_d" .f32 0x394CCCCD#32 ((1 / 5120 : ℝ) : EReal)

def algebraic_QkvIdeal_QkvRefIdeal_pre_nonzero_scale [hQkvIdeal : Cert.QkvIdeal.Facts] [hQkvRefIdeal : Cert.QkvRefIdeal.Facts] [hPre_nonzero_scale : Cert.Pre_nonzero_scale.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_nonzero_scale m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)
      ∧ m' ((c.tc : Thread Cert.QkvRefIdeal.nD Cert.QkvRefIdeal.τ).loc Cert.QkvRefIdeal.main_arg12) = m ((c.tc : Thread Cert.QkvIdeal.nD Cert.QkvIdeal.τ).loc Cert.QkvIdeal.main_arg12)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v1_4) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
          ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11)
          ∧ r.2.mem ((c.tc : Thread Cert.QkvRefIdeal.nD Cert.QkvRefIdeal.τ).loc Cert.QkvRefIdeal.main_arg12) = m' ((c.tc : Thread Cert.QkvRefIdeal.nD Cert.QkvRefIdeal.τ).loc Cert.QkvRefIdeal.main_arg12))

def preserves_Gu_GuIdeal : Prop :=
  IdealRules.named_const.Statement Cert.GuIdeal.κ "inv_d" .f32 0x394CCCCD#32 ((1 / 5120 : ℝ) : EReal)
  ∧ IdealRules.named_const.Statement Cert.GuIdeal.κ "neg_log2e" .f32 0xBFB8AA3B#32 ((-((Real.log 2)⁻¹) : ℝ) : EReal)

def algebraic_GuIdeal_GuRefIdeal_pre_proper_scales [hGuIdeal : Cert.GuIdeal.Facts] [hGuRefIdeal : Cert.GuRefIdeal.Facts] [hPre_proper_scales : Cert.Pre_proper_scales.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal_proper_scales m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)
      ∧ m' ((c.tc : Thread Cert.GuRefIdeal.nD Cert.GuRefIdeal.τ).loc Cert.GuRefIdeal.main_arg3) = m ((c.tc : Thread Cert.GuIdeal.nD Cert.GuIdeal.τ).loc Cert.GuIdeal.main_arg3)
      ∧ m' ((c.tc : Thread Cert.GuRefIdeal.nD Cert.GuRefIdeal.τ).loc Cert.GuRefIdeal.main_arg4) = m ((c.tc : Thread Cert.GuIdeal.nD Cert.GuIdeal.τ).loc Cert.GuIdeal.main_arg4)
      ∧ m' ((c.tc : Thread Cert.GuRefIdeal.nD Cert.GuRefIdeal.τ).loc Cert.GuRefIdeal.main_arg5) = m ((c.tc : Thread Cert.GuIdeal.nD Cert.GuIdeal.τ).loc Cert.GuIdeal.main_arg5)
      ∧ m' ((c.tc : Thread Cert.GuRefIdeal.nD Cert.GuRefIdeal.τ).loc Cert.GuRefIdeal.main_arg6) = m ((c.tc : Thread Cert.GuIdeal.nD Cert.GuIdeal.τ).loc Cert.GuIdeal.main_arg6)
      ∧ m' ((c.tc : Thread Cert.GuRefIdeal.nD Cert.GuRefIdeal.τ).loc Cert.GuRefIdeal.main_arg7) = m ((c.tc : Thread Cert.GuIdeal.nD Cert.GuIdeal.τ).loc Cert.GuIdeal.main_arg7)
      ∧ m' ((c.tc : Thread Cert.GuRefIdeal.nD Cert.GuRefIdeal.τ).loc Cert.GuRefIdeal.main_arg8) = m ((c.tc : Thread Cert.GuIdeal.nD Cert.GuIdeal.τ).loc Cert.GuIdeal.main_arg8)
      ∧ m' ((c.tc : Thread Cert.GuRefIdeal.nD Cert.GuRefIdeal.τ).loc Cert.GuRefIdeal.main_arg9) = m ((c.tc : Thread Cert.GuIdeal.nD Cert.GuIdeal.τ).loc Cert.GuIdeal.main_arg9)) →
    ∃ (v0 : (c : Dev Cert.GuIdeal.nD) → Buf (Elt Ideal) ((c.tc : Thread Cert.GuIdeal.nD Cert.GuIdeal.τ).loc Cert.GuIdeal.main_v0_0)) (v1 : (c : Dev Cert.GuIdeal.nD) → Buf (Elt Ideal) ((c.tc : Thread Cert.GuIdeal.nD Cert.GuIdeal.τ).loc Cert.GuIdeal.main_v0_1)) (v2 : (c : Dev Cert.GuIdeal.nD) → Buf (Elt Ideal) ((c.tc : Thread Cert.GuIdeal.nD Cert.GuIdeal.τ).loc Cert.GuIdeal.main_v0_2)) (v3 : (c : Dev Cert.GuIdeal.nD) → Buf (Elt Ideal) ((c.tc : Thread Cert.GuIdeal.nD Cert.GuIdeal.τ).loc Cert.GuIdeal.main_v0_3)) (v4 : (c : Dev Cert.GuIdeal.nD) → Buf (Elt Ideal) ((c.tc : Thread Cert.GuIdeal.nD Cert.GuIdeal.τ).loc Cert.GuIdeal.main_v0_4)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0_0) = v0 c
          ∧ r.2.mem ((c.tc : Thread Cert.GuIdeal.nD Cert.GuIdeal.τ).loc Cert.GuIdeal.main_v0_1) = v1 c
          ∧ r.2.mem ((c.tc : Thread Cert.GuIdeal.nD Cert.GuIdeal.τ).loc Cert.GuIdeal.main_v0_2) = v2 c
          ∧ r.2.mem ((c.tc : Thread Cert.GuIdeal.nD Cert.GuIdeal.τ).loc Cert.GuIdeal.main_v0_3) = v3 c
          ∧ r.2.mem ((c.tc : Thread Cert.GuIdeal.nD Cert.GuIdeal.τ).loc Cert.GuIdeal.main_v0_4) = v4 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
          ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
          ∧ r.2.mem ((c.tc : Thread Cert.GuIdeal.nD Cert.GuIdeal.τ).loc Cert.GuIdeal.main_arg4) = m ((c.tc : Thread Cert.GuIdeal.nD Cert.GuIdeal.τ).loc Cert.GuIdeal.main_arg4)
          ∧ r.2.mem ((c.tc : Thread Cert.GuIdeal.nD Cert.GuIdeal.τ).loc Cert.GuIdeal.main_arg5) = m ((c.tc : Thread Cert.GuIdeal.nD Cert.GuIdeal.τ).loc Cert.GuIdeal.main_arg5)
          ∧ r.2.mem ((c.tc : Thread Cert.GuIdeal.nD Cert.GuIdeal.τ).loc Cert.GuIdeal.main_arg6) = m ((c.tc : Thread Cert.GuIdeal.nD Cert.GuIdeal.τ).loc Cert.GuIdeal.main_arg6)
          ∧ r.2.mem ((c.tc : Thread Cert.GuIdeal.nD Cert.GuIdeal.τ).loc Cert.GuIdeal.main_arg7) = m ((c.tc : Thread Cert.GuIdeal.nD Cert.GuIdeal.τ).loc Cert.GuIdeal.main_arg7)
          ∧ r.2.mem ((c.tc : Thread Cert.GuIdeal.nD Cert.GuIdeal.τ).loc Cert.GuIdeal.main_arg8) = m ((c.tc : Thread Cert.GuIdeal.nD Cert.GuIdeal.τ).loc Cert.GuIdeal.main_arg8)
          ∧ r.2.mem ((c.tc : Thread Cert.GuIdeal.nD Cert.GuIdeal.τ).loc Cert.GuIdeal.main_arg9) = m ((c.tc : Thread Cert.GuIdeal.nD Cert.GuIdeal.τ).loc Cert.GuIdeal.main_arg9))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v0_0) = v0 c
          ∧ r.2.mem ((c.tc : Thread Cert.GuRefIdeal.nD Cert.GuRefIdeal.τ).loc Cert.GuRefIdeal.main_v0_1) = v1 c
          ∧ r.2.mem ((c.tc : Thread Cert.GuRefIdeal.nD Cert.GuRefIdeal.τ).loc Cert.GuRefIdeal.main_v0_2) = v2 c
          ∧ r.2.mem ((c.tc : Thread Cert.GuRefIdeal.nD Cert.GuRefIdeal.τ).loc Cert.GuRefIdeal.main_v0_3) = v3 c
          ∧ r.2.mem ((c.tc : Thread Cert.GuRefIdeal.nD Cert.GuRefIdeal.τ).loc Cert.GuRefIdeal.main_v0_4) = v4 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2)
          ∧ r.2.mem ((c.tc : Thread Cert.GuRefIdeal.nD Cert.GuRefIdeal.τ).loc Cert.GuRefIdeal.main_arg3) = m' ((c.tc : Thread Cert.GuRefIdeal.nD Cert.GuRefIdeal.τ).loc Cert.GuRefIdeal.main_arg3)
          ∧ r.2.mem ((c.tc : Thread Cert.GuRefIdeal.nD Cert.GuRefIdeal.τ).loc Cert.GuRefIdeal.main_arg4) = m' ((c.tc : Thread Cert.GuRefIdeal.nD Cert.GuRefIdeal.τ).loc Cert.GuRefIdeal.main_arg4)
          ∧ r.2.mem ((c.tc : Thread Cert.GuRefIdeal.nD Cert.GuRefIdeal.τ).loc Cert.GuRefIdeal.main_arg5) = m' ((c.tc : Thread Cert.GuRefIdeal.nD Cert.GuRefIdeal.τ).loc Cert.GuRefIdeal.main_arg5)
          ∧ r.2.mem ((c.tc : Thread Cert.GuRefIdeal.nD Cert.GuRefIdeal.τ).loc Cert.GuRefIdeal.main_arg6) = m' ((c.tc : Thread Cert.GuRefIdeal.nD Cert.GuRefIdeal.τ).loc Cert.GuRefIdeal.main_arg6)
          ∧ r.2.mem ((c.tc : Thread Cert.GuRefIdeal.nD Cert.GuRefIdeal.τ).loc Cert.GuRefIdeal.main_arg7) = m' ((c.tc : Thread Cert.GuRefIdeal.nD Cert.GuRefIdeal.τ).loc Cert.GuRefIdeal.main_arg7)
          ∧ r.2.mem ((c.tc : Thread Cert.GuRefIdeal.nD Cert.GuRefIdeal.τ).loc Cert.GuRefIdeal.main_arg8) = m' ((c.tc : Thread Cert.GuRefIdeal.nD Cert.GuRefIdeal.τ).loc Cert.GuRefIdeal.main_arg8)
          ∧ r.2.mem ((c.tc : Thread Cert.GuRefIdeal.nD Cert.GuRefIdeal.τ).loc Cert.GuRefIdeal.main_arg9) = m' ((c.tc : Thread Cert.GuRefIdeal.nD Cert.GuRefIdeal.τ).loc Cert.GuRefIdeal.main_arg9))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hQkv : Cert.Qkv.Facts) (hQkvIdeal : Cert.QkvIdeal.Facts) (hQkvRefIdeal : Cert.QkvRefIdeal.Facts) (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts) (hPre_nonzero_scale : Cert.Pre_nonzero_scale.Facts) (hPre_proper_scales : Cert.Pre_proper_scales.Facts),
    quiescent_Qkv (hQkv := hQkv)
    ∧ quiescent_QkvIdeal (hQkvIdeal := hQkvIdeal)
    ∧ quiescent_QkvIdeal_pre_nonzero_scale (hQkvIdeal := hQkvIdeal) (hPre_nonzero_scale := hPre_nonzero_scale)
    ∧ quiescent_QkvRefIdeal (hQkvRefIdeal := hQkvRefIdeal)
    ∧ quiescent_QkvRefIdeal_pre_nonzero_scale (hQkvRefIdeal := hQkvRefIdeal) (hPre_nonzero_scale := hPre_nonzero_scale)
    ∧ quiescent_Gu (hGu := hGu)
    ∧ quiescent_GuIdeal (hGuIdeal := hGuIdeal)
    ∧ quiescent_GuIdeal_pre_proper_scales (hGuIdeal := hGuIdeal) (hPre_proper_scales := hPre_proper_scales)
    ∧ quiescent_GuRefIdeal (hGuRefIdeal := hGuRefIdeal)
    ∧ quiescent_GuRefIdeal_pre_proper_scales (hGuRefIdeal := hGuRefIdeal) (hPre_proper_scales := hPre_proper_scales)
    ∧ quiescent_Down (hDown := hDown)
    ∧ quiescent_DownIdeal (hDownIdeal := hDownIdeal)
    ∧ quiescent_DownRefIdeal (hDownRefIdeal := hDownRefIdeal)
    ∧ preserves_Qkv_QkvIdeal
    ∧ algebraic_QkvIdeal_QkvRefIdeal_pre_nonzero_scale (hQkvIdeal := hQkvIdeal) (hQkvRefIdeal := hQkvRefIdeal) (hPre_nonzero_scale := hPre_nonzero_scale)
    ∧ preserves_Gu_GuIdeal
    ∧ algebraic_GuIdeal_GuRefIdeal_pre_proper_scales (hGuIdeal := hGuIdeal) (hGuRefIdeal := hGuRefIdeal) (hPre_proper_scales := hPre_proper_scales)
    ∧ preserves_Down_DownIdeal
    ∧ algebraic_DownIdeal_DownRefIdeal (hDownIdeal := hDownIdeal) (hDownRefIdeal := hDownRefIdeal)
-- ==== Pre_nonzero_scale.lean ====
abbrev S16384x5120 : Shape := ⟨2, ![16384, 5120]⟩
abbrev S1x5120 : Shape := ⟨2, ![1, 5120]⟩
abbrev S1x128 : Shape := ⟨2, ![1, 128]⟩
abbrev S2x4096x64 : Shape := ⟨3, ![2, 4096, 64]⟩
abbrev S2x8192 : Shape := ⟨2, ![2, 8192]⟩
abbrev S5120x1280 : Shape := ⟨2, ![5120, 1280]⟩
abbrev S1 : Shape := ⟨1, ![1]⟩
abbrev S8 : Shape := ⟨1, ![8]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S16384x5120 .bf16) (main_arg1 : FVec F S1x5120 .f32) (main_arg2 : FVec F S1x128 .f32) (main_arg3 : FVec F S1x128 .f32) (main_arg4 : FVec F S2x4096x64 .f32) (main_arg5 : FVec F S2x4096x64 .f32) (main_arg6 : FVec F S2x8192 .f32) (main_arg7 : FVec F S5120x1280 .fp8e4m3) (main_arg8 : FVec F S1 .f32) (main_arg9 : FVec F S1 .f32) (main_arg10 : FVec F S8 .f32) (main_arg11 : FVec F S1 .f32) (main_arg12 : FVec F S1 .f32) : IVec S1 1 :=
  let main_cst : FVec F S_ .f32 := constant S_ .f32 0x00000000#32
  let main_v0 : FVec F S1 .f32 := broadcastInDim S1 ![] bcast_S_S1 main_cst
  let main_v1 : IVec S1 1 := cmpf .une main_arg8 main_v0
  main_v1
-- ==== Pre_proper_scales.lean ====
abbrev S16384x5120 : Shape := ⟨2, ![16384, 5120]⟩
abbrev S16384x1024 : Shape := ⟨2, ![16384, 1024]⟩
abbrev S1x5120 : Shape := ⟨2, ![1, 5120]⟩
abbrev S1024x5120 : Shape := ⟨2, ![1024, 5120]⟩
abbrev S5120x6400 : Shape := ⟨2, ![5120, 6400]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S16384x5120 .bf16) (main_arg1 : FVec F S16384x1024 .fp8e4m3) (main_arg2 : FVec F S1x5120 .f32) (main_arg3 : FVec F S1024x5120 .fp8e4m3) (main_arg4 : FVec F S5120x6400 .fp8e4m3) (main_arg5 : FVec F S1 .f32) (main_arg6 : FVec F S1 .f32) (main_arg7 : FVec F S1 .f32) (main_arg8 : FVec F S1 .f32) (main_arg9 : FVec F S1 .f32) : IVec S1 1 :=
  let main_cst : FVec F S_ .f32 := constant S_ .f32 0x00000000#32
  let main_v0 : FVec F S1 .f32 := broadcastInDim S1 ![] bcast_S_S1 main_cst
  let main_v1 : IVec S1 1 := cmpf .ogt main_arg7 main_v0
  let main_cst_0 : FVec F S_ .f32 := constant S_ .f32 0x7F800000#32
  let main_v2 : FVec F S1 .f32 := broadcastInDim S1 ![] bcast_S_S1 main_cst_0
  let main_v3 : IVec S1 1 := cmpf .olt main_arg7 main_v2
  let main_v4 : IVec S1 1 := andi main_v1 main_v3
  let main_cst_1 : FVec F S_ .f32 := constant S_ .f32 0x00000000#32
  let main_v5 : FVec F S1 .f32 := broadcastInDim S1 ![] bcast_S_S1 main_cst_1
  let main_v6 : IVec S1 1 := cmpf .une main_arg9 main_v5
  let main_v7 : IVec S1 1 := andi main_v4 main_v6
  main_v7
-- ==== Qkv.lean ====
abbrev S16384x5120 : Shape := ⟨2, ![16384, 5120]⟩
abbrev S1x5120 : Shape := ⟨2, ![1, 5120]⟩
abbrev S1x128 : Shape := ⟨2, ![1, 128]⟩
abbrev S2x4096x64 : Shape := ⟨3, ![2, 4096, 64]⟩
abbrev S2x8192 : Shape := ⟨2, ![2, 8192]⟩
abbrev S5120x1280 : Shape := ⟨2, ![5120, 1280]⟩
abbrev S1 : Shape := ⟨1, ![1]⟩
abbrev S8 : Shape := ⟨1, ![8]⟩
abbrev S32x1x512 : Shape := ⟨3, ![32, 1, 512]⟩
abbrev S16384x1024 : Shape := ⟨2, ![16384, 1024]⟩
abbrev S16384x128 : Shape := ⟨2, ![16384, 128]⟩
abbrev S512x5120 : Shape := ⟨2, ![512, 5120]⟩
abbrev S1x512x64 : Shape := ⟨3, ![1, 512, 64]⟩
abbrev S1x1x512 : Shape := ⟨3, ![1, 1, 512]⟩
abbrev S512x1024 : Shape := ⟨2, ![512, 1024]⟩
abbrev S512x128 : Shape := ⟨2, ![512, 128]⟩
abbrev S8x128 : Shape := ⟨2, ![8, 128]⟩
abbrev S10x8x128 : Shape := ⟨3, ![10, 8, 128]⟩
abbrev S128x128 : Shape := ⟨2, ![128, 128]⟩
abbrev S32x128 : Shape := ⟨2, ![32, 128]⟩
abbrev S512x2560 : Shape := ⟨2, ![512, 2560]⟩
abbrev S2560x256 : Shape := ⟨2, ![2560, 256]⟩
abbrev S512x256 : Shape := ⟨2, ![512, 256]⟩
abbrev S1x8x128 : Shape := ⟨3, ![1, 8, 128]⟩
abbrev S64x128 : Shape := ⟨2, ![64, 128]⟩
abbrev S1x128x64 : Shape := ⟨3, ![1, 128, 64]⟩
abbrev S128x64 : Shape := ⟨2, ![128, 64]⟩
abbrev S5120x256 : Shape := ⟨2, ![5120, 256]⟩
abbrev S1x1x128 : Shape := ⟨3, ![1, 1, 128]⟩
abbrev S1x1x1 : Shape := ⟨3, ![1, 1, 1]⟩

abbrev nBuf : Space → Nat
  | .hbm => 22
  | .vmem => 22
  | .smem => 9
  | _ => 0

abbrev bufTy : (tb : Table) → Fin (tcTables nBuf tb) → BufTy
  | .hbm, ⟨0, _⟩ => ⟨S16384x5120, .bf16⟩
  | .hbm, ⟨1, _⟩ => ⟨S1x5120, .f32⟩
  | .hbm, ⟨2, _⟩ => ⟨S1x128, .f32⟩
  | .hbm, ⟨3, _⟩ => ⟨S1x128, .f32⟩
  | .hbm, ⟨4, _⟩ => ⟨S2x4096x64, .f32⟩
  | .hbm, ⟨5, _⟩ => ⟨S2x4096x64, .f32⟩
  | .hbm, ⟨6, _⟩ => ⟨S2x8192, .f32⟩
  | .hbm, ⟨7, _⟩ => ⟨S5120x1280, .fp8e4m3⟩
  | .hbm, ⟨8, _⟩ => ⟨S1, .f32⟩
  | .hbm, ⟨9, _⟩ => ⟨S1, .f32⟩
  | .hbm, ⟨10, _⟩ => ⟨S8, .f32⟩
  | .hbm, ⟨11, _⟩ => ⟨S1, .f32⟩
  | .hbm, ⟨12, _⟩ => ⟨S1, .f32⟩
  | .hbm, ⟨13, _⟩ => ⟨S32x1x512, .f32⟩
  | .hbm, ⟨14, _⟩ => ⟨S16384x5120, .fp8e4m3⟩
  | .hbm, ⟨15, _⟩ => ⟨S16384x1024, .fp8e4m3⟩
  | .hbm, ⟨16, _⟩ => ⟨S16384x128, .fp8e4m3⟩
  | .hbm, ⟨17, _⟩ => ⟨S16384x128, .fp8e4m3⟩
  | .hbm, ⟨18, _⟩ => ⟨S1, .f32⟩
  | .hbm, ⟨19, _⟩ => ⟨S8, .f32⟩
  | .hbm, ⟨20, _⟩ => ⟨S1, .f32⟩
  | .hbm, ⟨21, _⟩ => ⟨S1, .f32⟩
  | .local _ .vmem, ⟨0, _⟩ => ⟨S512x5120, .bf16⟩
  | .local _ .vmem, ⟨1, _⟩ => ⟨S512x5120, .bf16⟩
  | .local _ .vmem, ⟨2, _⟩ => ⟨S1x5120, .f32⟩
  | .local _ .vmem, ⟨3, _⟩ => ⟨S1x128, .f32⟩
  | .local _ .vmem, ⟨4, _⟩ => ⟨S1x128, .f32⟩
  | .local _ .vmem, ⟨5, _⟩ => ⟨S1x512x64, .f32⟩
  | .local _ .vmem, ⟨6, _⟩ => ⟨S1x512x64, .f32⟩
  | .local _ .vmem, ⟨7, _⟩ => ⟨S1x512x64, .f32⟩
  | .local _ .vmem, ⟨8, _⟩ => ⟨S1x512x64, .f32⟩
  | .local _ .vmem, ⟨9, _⟩ => ⟨S1x1x512, .f32⟩
  | .local _ .vmem, ⟨10, _⟩ => ⟨S1x1x512, .f32⟩
  | .local _ .vmem, ⟨11, _⟩ => ⟨S5120x1280, .fp8e4m3⟩
  | .local _ .vmem, ⟨12, _⟩ => ⟨S512x5120, .fp8e4m3⟩
  | .local _ .vmem, ⟨13, _⟩ => ⟨S512x5120, .fp8e4m3⟩
  | .local _ .vmem, ⟨14, _⟩ => ⟨S512x1024, .fp8e4m3⟩
  | .local _ .vmem, ⟨15, _⟩ => ⟨S512x1024, .fp8e4m3⟩
  | .local _ .vmem, ⟨16, _⟩ => ⟨S512x128, .fp8e4m3⟩
  | .local _ .vmem, ⟨17, _⟩ => ⟨S512x128, .fp8e4m3⟩
  | .local _ .vmem, ⟨18, _⟩ => ⟨S512x128, .fp8e4m3⟩
  | .local _ .vmem, ⟨19, _⟩ => ⟨S512x128, .fp8e4m3⟩
  | .local _ .vmem, ⟨20, _⟩ => ⟨S8x128, .f32⟩
  | .local _ .vmem, ⟨21, _⟩ => ⟨S10x8x128, .f32⟩
  | .local _ .smem, ⟨0, _⟩ => ⟨S1, .f32⟩
  | .local _ .smem, ⟨1, _⟩ => ⟨S1, .f32⟩
  | .local _ .smem, ⟨2, _⟩ => ⟨S8, .f32⟩
  | .local _ .smem, ⟨3, _⟩ => ⟨S1, .f32⟩
  | .local _ .smem, ⟨4, _⟩ => ⟨S1, .f32⟩
  | .local _ .smem, ⟨5, _⟩ => ⟨S1, .f32⟩
  | .local _ .smem, ⟨6, _⟩ => ⟨S8, .f32⟩
  | .local _ .smem, ⟨7, _⟩ => ⟨S1, .f32⟩
  | .local _ .smem, ⟨8, _⟩ => ⟨S1, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev main_v1_4 : Ref sig .tc := ⟨.hbm, 18, rfl⟩
abbrev main_v1_5 : Ref sig .tc := ⟨.hbm, 19, rfl⟩
abbrev main_v1_6 : Ref sig .tc := ⟨.hbm, 20, rfl⟩
abbrev main_v1_7 : Ref sig .tc := ⟨.hbm, 21, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg9_1 : Ref sig .tc := ⟨.vmem, 6, rfl⟩
abbrev cc0_stg10_0 : Ref sig .tc := ⟨.vmem, 7, rfl⟩
abbrev cc0_stg10_1 : Ref sig .tc := ⟨.vmem, 8, rfl⟩
abbrev cc0_stg11_0 : Ref sig .tc := ⟨.vmem, 9, rfl⟩
abbrev cc0_stg11_1 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg13_1 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg17_0 : Ref sig .tc := ⟨.smem, 5, rfl⟩
abbrev cc0_stg18_0 : Ref sig .tc := ⟨.smem, 6, rfl⟩
abbrev cc0_stg19_0 : Ref sig .tc := ⟨.smem, 7, rfl⟩
abbrev cc0_stg20_0 : Ref sig .tc := ⟨.smem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem18_0 : DmaSem sig := 26
abbrev cc0_sem19_0 : DmaSem sig := 27
abbrev cc0_sem20_0 : DmaSem sig := 28

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v21098 : BitVec 1 := Scalar.cmpi .eq arg0 c31_i32
  let v21099 : BitVec 32 := Scalar.extui v21098
  let c0_i32_4896 : BitVec 32 := 0#32
  let v21100 : BitVec 1 := Scalar.cmpi .ne v21099 c0_i32_4896
  v21100

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let c0_i32_4 : BitVec 32 := 0#32
  let v17 : BitVec 1 := Scalar.cmpi .eq c8_i32 c0_i32_4
  let c1_i32_5 : BitVec 32 := 1#32
  let v18 : BitVec 32 := Scalar.select v17 c1_i32_5 c8_i32
  let v19 : BitVec 32 := Scalar.remsi arg0 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  ![v16.toNat, v26.toNat, c0_i32_9.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let c0_i32_4 : BitVec 32 := 0#32
  let v17 : BitVec 1 := Scalar.cmpi .eq c8_i32 c0_i32_4
  let c1_i32_5 : BitVec 32 := 1#32
  let v18 : BitVec 32 := Scalar.select v17 c1_i32_5 c8_i32
  let v19 : BitVec 32 := Scalar.remsi arg0 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  ![v16.toNat, v26.toNat, c0_i32_9.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S5120x1280 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x5120 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .smem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .smem S8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .smem S1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .smem S1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== QkvIdeal.lean ====
variable {F : FTy → Type} [FloatOps F] [Named F]
def κ : String → Option EReal := fun
  | "inv_d" => some ((1 / 5120 : ℝ) : EReal)
  | _ => none
-- ==== QkvRefIdeal.lean ====
abbrev S16384x5120 : Shape := ⟨2, ![16384, 5120]⟩
abbrev S1x5120 : Shape := ⟨2, ![1, 5120]⟩
abbrev S1x128 : Shape := ⟨2, ![1, 128]⟩
abbrev S2x4096x64 : Shape := ⟨3, ![2, 4096, 64]⟩
abbrev S2x8192 : Shape := ⟨2, ![2, 8192]⟩
abbrev S5120x1280 : Shape := ⟨2, ![5120, 1280]⟩
abbrev S1 : Shape := ⟨1, ![1]⟩
abbrev S8 : Shape := ⟨1, ![8]⟩
abbrev S16384 : Shape := ⟨1, ![16384]⟩
abbrev S16384x1 : Shape := ⟨2, ![16384, 1]⟩
abbrev S1x16384x5120 : Shape := ⟨3, ![1, 16384, 5120]⟩
abbrev S1x1x1 : Shape := ⟨3, ![1, 1, 1]⟩

abbrev nBuf : Space → Nat
  | .hbm => 15
  | .vmem => 3
  | .smem => 2
  | _ => 0

abbrev bufTy : (tb : Table) → Fin (tcTables nBuf tb) → BufTy
  | .hbm, ⟨0, _⟩ => ⟨S16384x5120, .bf16⟩
  | .hbm, ⟨1, _⟩ => ⟨S1x5120, .f32⟩
  | .hbm, ⟨2, _⟩ => ⟨S1x128, .f32⟩
  | .hbm, ⟨3, _⟩ => ⟨S1x128, .f32⟩
  | .hbm, ⟨4, _⟩ => ⟨S2x4096x64, .f32⟩
  | .hbm, ⟨5, _⟩ => ⟨S2x4096x64, .f32⟩
  | .hbm, ⟨6, _⟩ => ⟨S2x8192, .f32⟩
  | .hbm, ⟨7, _⟩ => ⟨S5120x1280, .fp8e4m3⟩
  | .hbm, ⟨8, _⟩ => ⟨S1, .f32⟩
  | .hbm, ⟨9, _⟩ => ⟨S1, .f32⟩
  | .hbm, ⟨10, _⟩ => ⟨S8, .f32⟩
  | .hbm, ⟨11, _⟩ => ⟨S1, .f32⟩
  | .hbm, ⟨12, _⟩ => ⟨S1, .f32⟩
  | .hbm, ⟨13, _⟩ => ⟨S16384x5120, .fp8e4m3⟩
  | .hbm, ⟨14, _⟩ => ⟨S1, .f32⟩
  | .local _ .vmem, ⟨0, _⟩ => ⟨S16384x5120, .bf16⟩
  | .local _ .vmem, ⟨1, _⟩ => ⟨S1x5120, .f32⟩
  | .local _ .vmem, ⟨2, _⟩ => ⟨S16384x5120, .fp8e4m3⟩
  | .local _ .smem, ⟨0, _⟩ => ⟨S1, .f32⟩
  | .local _ .smem, ⟨1, _⟩ => ⟨S1, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Gu.lean ====
abbrev S16384x5120 : Shape := ⟨2, ![16384, 5120]⟩
abbrev S16384x1024 : Shape := ⟨2, ![16384, 1024]⟩
abbrev S1x5120 : Shape := ⟨2, ![1, 5120]⟩
abbrev S1024x5120 : Shape := ⟨2, ![1024, 5120]⟩
abbrev S5120x6400 : Shape := ⟨2, ![5120, 6400]⟩
abbrev S1 : Shape := ⟨1, ![1]⟩
abbrev S16384x3200 : Shape := ⟨2, ![16384, 3200]⟩
abbrev S256x5120 : Shape := ⟨2, ![256, 5120]⟩
abbrev S256x1024 : Shape := ⟨2, ![256, 1024]⟩
abbrev S256x3200 : Shape := ⟨2, ![256, 3200]⟩
abbrev S8x128 : Shape := ⟨2, ![8, 128]⟩
abbrev S256x256 : Shape := ⟨2, ![256, 256]⟩
abbrev S1024x256 : Shape := ⟨2, ![1024, 256]⟩
abbrev S32x5120 : Shape := ⟨2, ![32, 5120]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S5120x256 : Shape := ⟨2, ![5120, 256]⟩
abbrev S256x128 : Shape := ⟨2, ![256, 128]⟩
abbrev S1x1 : Shape := ⟨2, ![1, 1]⟩
abbrev S5120x128 : Shape := ⟨2, ![5120, 128]⟩
abbrev S1x8x128 : Shape := ⟨3, ![1, 8, 128]⟩
abbrev S1x1x1 : Shape := ⟨3, ![1, 1, 1]⟩

abbrev nBuf : Space → Nat
  | .hbm => 15
  | .vmem => 15
  | .smem => 7
  | _ => 0

abbrev bufTy : (tb : Table) → Fin (tcTables nBuf tb) → BufTy
  | .hbm, ⟨0, _⟩ => ⟨S16384x5120, .bf16⟩
  | .hbm, ⟨1, _⟩ => ⟨S16384x1024, .fp8e4m3⟩
  | .hbm, ⟨2, _⟩ => ⟨S1x5120, .f32⟩
  | .hbm, ⟨3, _⟩ => ⟨S1024x5120, .fp8e4m3⟩
  | .hbm, ⟨4, _⟩ => ⟨S5120x6400, .fp8e4m3⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S16384x5120, .f32⟩
  | .hbm, ⟨11, _⟩ => ⟨S16384x5120, .fp8e4m3⟩
  | .hbm, ⟨12, _⟩ => ⟨S16384x3200, .fp8e4m3⟩
  | .hbm, ⟨13, _⟩ => ⟨S1, .f32⟩
  | .hbm, ⟨14, _⟩ => ⟨S1, .f32⟩
  | .local _ .vmem, ⟨0, _⟩ => ⟨S256x5120, .bf16⟩
  | .local _ .vmem, ⟨1, _⟩ => ⟨S256x5120, .bf16⟩
  | .local _ .vmem, ⟨2, _⟩ => ⟨S256x1024, .fp8e4m3⟩
  | .local _ .vmem, ⟨3, _⟩ => ⟨S256x1024, .fp8e4m3⟩
  | .local _ .vmem, ⟨4, _⟩ => ⟨S1x5120, .f32⟩
  | .local _ .vmem, ⟨5, _⟩ => ⟨S1024x5120, .fp8e4m3⟩
  | .local _ .vmem, ⟨6, _⟩ => ⟨S5120x6400, .fp8e4m3⟩
  | .local _ .vmem, ⟨7, _⟩ => ⟨S256x5120, .f32⟩
  | .local _ .vmem, ⟨8, _⟩ => ⟨S256x5120, .f32⟩
  | .local _ .vmem, ⟨9, _⟩ => ⟨S256x5120, .fp8e4m3⟩
  | .local _ .vmem, ⟨10, _⟩ => ⟨S256x5120, .fp8e4m3⟩
  | .local _ .vmem, ⟨11, _⟩ => ⟨S256x3200, .fp8e4m3⟩
  | .local _ .vmem, ⟨12, _⟩ => ⟨S256x3200, .fp8e4m3⟩
  | .local _ .vmem, ⟨13, _⟩ => ⟨S8x128, .f32⟩
  | .local _ .vmem, ⟨14, _⟩ => ⟨S8x128, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | .local _ .smem, ⟨6, _⟩ => ⟨S1, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg10_1 : Ref sig .tc := ⟨.vmem, 8, rfl⟩
abbrev cc0_stg11_0 : Ref sig .tc := ⟨.vmem, 9, rfl⟩
abbrev cc0_stg11_1 : Ref sig .tc := ⟨.vmem, 10, rfl⟩
abbrev cc0_stg12_0 : Ref sig .tc := ⟨.vmem, 11, rfl⟩
abbrev cc0_stg12_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg13_0 : Ref sig .tc := ⟨.smem, 5, rfl⟩
abbrev cc0_stg14_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v2905 : BitVec 1 := Scalar.cmpi .eq arg0 c63_i32
  let v2906 : BitVec 32 := Scalar.extui v2905
  let c0_i32_363 : BitVec 32 := 0#32
  let v2907 : BitVec 1 := Scalar.cmpi .ne v2906 c0_i32_363
  v2907

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5120x6400 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5120 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5120 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3200 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GuIdeal.lean ====
variable {F : FTy → Type} [FloatOps F] [Named F]
def κ : String → Option EReal := fun
  | "inv_d" => some ((1 / 5120 : ℝ) : EReal)
  | "neg_log2e" => some ((-((Real.log 2)⁻¹) : ℝ) : EReal)
  | _ => none
-- ==== GuRefIdeal.lean ====
abbrev S16384x5120 : Shape := ⟨2, ![16384, 5120]⟩
abbrev S16384x1024 : Shape := ⟨2, ![16384, 1024]⟩
abbrev S1x5120 : Shape := ⟨2, ![1, 5120]⟩
abbrev S1024x5120 : Shape := ⟨2, ![1024, 5120]⟩
abbrev S5120x6400 : Shape := ⟨2, ![5120, 6400]⟩
abbrev S1 : Shape := ⟨1, ![1]⟩
abbrev S16384x3200 : Shape := ⟨2, ![16384, 3200]⟩
abbrev S16384 : Shape := ⟨1, ![16384]⟩
abbrev S16384x1 : Shape := ⟨2, ![16384, 1]⟩
abbrev S1x16384x5120 : Shape := ⟨3, ![1, 16384, 5120]⟩
abbrev S1x1x1 : Shape := ⟨3, ![1, 1, 1]⟩
abbrev S16384x6400 : Shape := ⟨2, ![16384, 6400]⟩
abbrev S1x16384x3200 : Shape := ⟨3, ![1, 16384, 3200]⟩

abbrev nBuf : Space → Nat
  | .hbm => 15
  | .vmem => 8
  | .smem => 7
  | _ => 0

abbrev bufTy : (tb : Table) → Fin (tcTables nBuf tb) → BufTy
  | .hbm, ⟨0, _⟩ => ⟨S16384x5120, .bf16⟩
  | .hbm, ⟨1, _⟩ => ⟨S16384x1024, .fp8e4m3⟩
  | .hbm, ⟨2, _⟩ => ⟨S1x5120, .f32⟩
  | .hbm, ⟨3, _⟩ => ⟨S1024x5120, .fp8e4m3⟩
  | .hbm, ⟨4, _⟩ => ⟨S5120x6400, .fp8e4m3⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S16384x5120, .f32⟩
  | .hbm, ⟨11, _⟩ => ⟨S16384x5120, .fp8e4m3⟩
  | .hbm, ⟨12, _⟩ => ⟨S16384x3200, .fp8e4m3⟩
  | .hbm, ⟨13, _⟩ => ⟨S1, .f32⟩
  | .hbm, ⟨14, _⟩ => ⟨S1, .f32⟩
  | .local _ .vmem, ⟨0, _⟩ => ⟨S16384x5120, .bf16⟩
  | .local _ .vmem, ⟨1, _⟩ => ⟨S16384x1024, .fp8e4m3⟩
  | .local _ .vmem, ⟨2, _⟩ => ⟨S1x5120, .f32⟩
  | .local _ .vmem, ⟨3, _⟩ => ⟨S1024x5120, .fp8e4m3⟩
  | .local _ .vmem, ⟨4, _⟩ => ⟨S5120x6400, .fp8e4m3⟩
  | .local _ .vmem, ⟨5, _⟩ => ⟨S16384x5120, .f32⟩
  | .local _ .vmem, ⟨6, _⟩ => ⟨S16384x5120, .fp8e4m3⟩
  | .local _ .vmem, ⟨7, _⟩ => ⟨S16384x3200, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | .local _ .smem, ⟨6, _⟩ => ⟨S1, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg13_0 : Ref sig .tc := ⟨.smem, 5, rfl⟩
abbrev cc0_stg14_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5120x6400 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384x5120 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16384x3200 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Down.lean ====
abbrev S16384x3200 : Shape := ⟨2, ![16384, 3200]⟩
abbrev S16384x5120 : Shape := ⟨2, ![16384, 5120]⟩
abbrev S3200x5120 : Shape := ⟨2, ![3200, 5120]⟩
abbrev S1 : Shape := ⟨1, ![1]⟩
abbrev S512x3200 : Shape := ⟨2, ![512, 3200]⟩
abbrev S512x5120 : Shape := ⟨2, ![512, 5120]⟩
abbrev S512x256 : Shape := ⟨2, ![512, 256]⟩
abbrev S3200x256 : Shape := ⟨2, ![3200, 256]⟩

abbrev nBuf : Space → Nat
  | .hbm => 6
  | .vmem => 7
  | .smem => 2
  | _ => 0

abbrev bufTy : (tb : Table) → Fin (tcTables nBuf tb) → BufTy
  | .hbm, ⟨0, _⟩ => ⟨S16384x3200, .fp8e4m3⟩
  | .hbm, ⟨1, _⟩ => ⟨S16384x5120, .f32⟩
  | .hbm, ⟨2, _⟩ => ⟨S3200x5120, .fp8e4m3⟩
  | .hbm, ⟨3, _⟩ => ⟨S1, .f32⟩
  | .hbm, ⟨4, _⟩ => ⟨S1, .f32⟩
  | .hbm, ⟨5, _⟩ => ⟨S16384x5120, .bf16⟩
  | .local _ .vmem, ⟨0, _⟩ => ⟨S512x3200, .fp8e4m3⟩
  | .local _ .vmem, ⟨1, _⟩ => ⟨S512x3200, .fp8e4m3⟩
  | .local _ .vmem, ⟨2, _⟩ => ⟨S512x5120, .f32⟩
  | .local _ .vmem, ⟨3, _⟩ => ⟨S512x5120, .f32⟩
  | .local _ .vmem, ⟨4, _⟩ => ⟨S3200x5120, .fp8e4m3⟩
  | .local _ .vmem, ⟨5, _⟩ => ⟨S512x5120, .bf16⟩
  | .local _ .vmem, ⟨6, _⟩ => ⟨S512x5120, .bf16⟩
  | .local _ .smem, ⟨0, _⟩ => ⟨S1, .f32⟩
  | .local _ .smem, ⟨1, _⟩ => ⟨S1, .f32⟩
  | _, _ => ⟨S16384x3200, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3200 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3200x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S16384x3200 : Shape := ⟨2, ![16384, 3200]⟩
abbrev S16384x5120 : Shape := ⟨2, ![16384, 5120]⟩
abbrev S3200x5120 : Shape := ⟨2, ![3200, 5120]⟩
abbrev S1 : Shape := ⟨1, ![1]⟩

abbrev nBuf : Space → Nat
  | .hbm => 6
  | .vmem => 4
  | .smem => 2
  | _ => 0

abbrev bufTy : (tb : Table) → Fin (tcTables nBuf tb) → BufTy
  | .hbm, ⟨0, _⟩ => ⟨S16384x3200, .fp8e4m3⟩
  | .hbm, ⟨1, _⟩ => ⟨S16384x5120, .f32⟩
  | .hbm, ⟨2, _⟩ => ⟨S3200x5120, .fp8e4m3⟩
  | .hbm, ⟨3, _⟩ => ⟨S1, .f32⟩
  | .hbm, ⟨4, _⟩ => ⟨S1, .f32⟩
  | .hbm, ⟨5, _⟩ => ⟨S16384x5120, .bf16⟩
  | .local _ .vmem, ⟨0, _⟩ => ⟨S16384x3200, .fp8e4m3⟩
  | .local _ .vmem, ⟨1, _⟩ => ⟨S16384x5120, .f32⟩
  | .local _ .vmem, ⟨2, _⟩ => ⟨S3200x5120, .fp8e4m3⟩
  | .local _ .vmem, ⟨3, _⟩ => ⟨S16384x5120, .bf16⟩
  | .local _ .smem, ⟨0, _⟩ => ⟨S1, .f32⟩
  | .local _ .smem, ⟨1, _⟩ => ⟨S1, .f32⟩
  | _, _ => ⟨S16384x3200, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x3200 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3200x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.DownRef.lean ====
/- The array the reference of the last matmul leaves. -/
module

public import proofs.«01_k».proof.Proof.Gen.DownRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownRefIdeal.Hand

open Cert.DownRefIdeal Cert.DownRefIdeal.Gen

variable (m : (ℓ : Loc nD τ sig) → Buf (Elt Ideal) ℓ)

/-- The result at an index: the residual plus the rescaled row by column product. -/
def yOf (h : FVec Ideal S16384x3200 .fp8e4m3) (h1 : FVec Ideal S16384x5120 .f32) (w : FVec Ideal S3200x5120 .fp8e4m3)
    (hs ws : FVec Ideal S1 .f32) : FVec Ideal S16384x5120 .bf16 := fun j =>
  h1 (ix2 (j 0) (j 1)) + (∑ k : Fin 3200, h (ix2 (j 0) k) * w (ix2 k (j 1))) * (hs (ix1 0) * ws (ix1 0))

/-- The index maps of the windows: one block each, the whole array. -/
theorem idx : ∀ t : Fin cfg0.N, win0_0.index t = ![0] ∧ win0_1.index t = ![0] ∧ win0_2.index t = ![0, 0]
    ∧ win0_3.index t = ![0, 0] ∧ win0_4.index t = ![0, 0] ∧ win0_5.index t = ![0, 0] :=
  (by decide +kernel : ∀ t : Fin grid0.N, _)

/-- What the one point leaves in its buffer, from the input blocks. -/
theorem block (c : Dev nD) (arg0 : Memref sig .tc .smem S1 .f32) (harg0 : arg0.IsWhole) (arg1 : Memref sig .tc .smem S1 .f32) (harg1 : arg1.IsWhole) (arg2 : Memref sig .tc .vmem S16384x3200 .fp8e4m3) (harg2 : arg2.IsWhole) (arg3 : Memref sig .tc .vmem S16384x5120 .f32) (harg3 : arg3.IsWhole) (arg4 : Memref sig .tc .vmem S3200x5120 .fp8e4m3) (harg4 : arg4.IsWhole) (arg5 : Memref sig .tc .vmem S16384x5120 .bf16) (harg5 : arg5.IsWhole)
    (x0 x1 : Vec Ideal S1 .f32) (x2 : Vec Ideal S16384x3200 .fp8e4m3) (x3 : Vec Ideal S16384x5120 .f32) (x4 : Vec Ideal S3200x5120 .fp8e4m3) (y : S16384x5120.Idx) :
    out0_A_5 c arg0 harg0 arg1 harg1 arg2 harg2 arg3 harg3 arg4 harg4 arg5 harg5 x0 x1 x2 x3 x4 y = yOf x2 x3 x4 x0 x1 y := by
  frame_out
  pointwise [k0_pay1, yOf, Memref.IsWhole.read_unread]

/-- The result array after the run. -/
theorem final (c : Dev nD) : (dats m 0 c).arrAt 5 (cfgs 0).N
    = yOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  rw [block]
  unfold yOf
  blk_point [iblk, V, idx t]

end Cert.DownRefIdeal.Hand
-- ==== Proof.DownKernel.lean ====
/- The array the kernel of the last matmul leaves. -/
module

public import proofs.«01_k».proof.Proof.DownRef
public import proofs.«01_k».proof.Proof.Gen.DownIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Hand

open Cert.DownIdeal Cert.DownIdeal.Gen

variable (m : (ℓ : Loc nD τ sig) → Buf (Elt Ideal) ℓ)

/-- The index maps of the windows, over all grid points. -/
theorem idx : ∀ t : Fin cfg0.N, win0_0.index t = ![0] ∧ win0_1.index t = ![0] ∧ win0_2.index t = ![t.val, 0]
    ∧ win0_3.index t = ![t.val, 0] ∧ win0_4.index t = ![0, 0] ∧ win0_5.index t = ![t.val, 0] :=
  (by decide +kernel : ∀ t : Fin grid0.N, _)

/-- What a grid point leaves in its block: at each index the residual plus the rescaled row by column product. -/
theorem block (c : Dev nD) (i : grid0.Coords) (arg1 : Memref sig .tc .smem S1 .f32) (harg1 : arg1.IsWhole) (arg2 : Memref sig .tc .smem S1 .f32) (harg2 : arg2.IsWhole) (arg3 : Memref sig .tc .vmem S512x3200 .fp8e4m3) (harg3 : arg3.IsWhole) (arg4 : Memref sig .tc .vmem S512x5120 .f32) (harg4 : arg4.IsWhole) (arg5 : Memref sig .tc .vmem S3200x5120 .fp8e4m3) (harg5 : arg5.IsWhole) (arg6 : Memref sig .tc .vmem S512x5120 .bf16) (harg6 : arg6.IsWhole)
    (x0 x1 : Vec Ideal S1 .f32) (x2 : Vec Ideal S512x3200 .fp8e4m3) (x3 : Vec Ideal S512x5120 .f32) (x4 : Vec Ideal S3200x5120 .fp8e4m3) (y : S512x5120.Idx) :
    out0_A_5 c i arg1 harg1 arg2 harg2 arg3 harg3 arg4 harg4 arg5 harg5 arg6 harg6 x0 x1 x2 x3 x4 y
      = x3 (ix2 (y 0) (y 1)) + (∑ k : Fin 3200, x2 (ix2 (y 0) k) * x4 (ix2 k (y 1))) * (x0 (ix1 0) * x1 (ix1 0)) := by
  frame_out
  canon_tiles x h
  all_goals (open_payloads; pointwise [Memref.IsWhole.read_unread]; blk_point [])

/-- The result array after the run. -/
theorem final (c : Dev nD) : (dats m 0 c).arrAt 5 (cfgs 0).N
    = Cert.DownRefIdeal.Hand.yOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  rw [block]
  unfold Cert.DownRefIdeal.Hand.yOf
  blk_point [iblk, V, idx t]

end Cert.DownIdeal.Hand
-- ==== Proof.DownClaim.lean ====
/- The claim about the last matmul: the kernel's array and the reference's are equal as extended reals. -/
module

public import proofs.«01_k».proof.Defs
public import proofs.«01_k».proof.Proof.DownRef
public import proofs.«01_k».proof.Proof.DownKernel
public import Idealize.ShloMosaic.Lib.Claim

@[expose] public section

set_option maxRecDepth 16384

noncomputable section

open Idealize.ShloMosaic Idealize.SL.Sem

namespace Cert.DownHand

/-- The last matmul with its residual: kernel and reference end with the same result. -/
theorem algebraic : Cert.algebraic_DownIdeal_DownRefIdeal := by
  pair_intro
  · run_from Cert.DownIdeal.Gen.run_main m g
  · run_from Cert.DownRefIdeal.Gen.run_main m' g'
    rw [Cert.DownRefIdeal.Hand.final, Cert.DownIdeal.Hand.final, (hagree c).1, (hagree c).2.1, (hagree c).2.2.1,
      (hagree c).2.2.2.1, (hagree c).2.2.2.2]

end Cert.DownHand
-- ==== Proof.GuRow.lean ====
/- One block of thirty-two rows: the normalised rows, their codes and the fold of their magnitudes, as the kernel computes them. -/
module

public import proofs.«01_k».proof.Proof.Gen.GuIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuIdeal.Hand

open Cert.GuIdeal Cert.GuIdeal.Gen

/-- The forty slices of 128 lanes, added from the left. -/
def lanesSum (w : FVec Ideal S32x5120 .f32) : FVec Ideal S32x128 .f32 :=
  (addf (addf (addf (addf (addf (addf (addf (addf (addf (addf (addf (addf (addf (addf (addf (addf (addf (addf (addf (addf (addf (addf (addf (addf (addf (addf (addf (addf (addf (addf (addf (addf (addf (addf (addf (addf (addf (addf (addf (extractStridedSlice S32x128 ![0, 0] w slices_S32x5120_o0_0_S32x128) (extractStridedSlice S32x128 ![0, 128] w slices_S32x5120_o0_128_S32x128)) (extractStridedSlice S32x128 ![0, 256] w slices_S32x5120_o0_256_S32x128)) (extractStridedSlice S32x128 ![0, 384] w slices_S32x5120_o0_384_S32x128)) (extractStridedSlice S32x128 ![0, 512] w slices_S32x5120_o0_512_S32x128)) (extractStridedSlice S32x128 ![0, 640] w slices_S32x5120_o0_640_S32x128)) (extractStridedSlice S32x128 ![0, 768] w slices_S32x5120_o0_768_S32x128)) (extractStridedSlice S32x128 ![0, 896] w slices_S32x5120_o0_896_S32x128)) (extractStridedSlice S32x128 ![0, 1024] w slices_S32x5120_o0_1024_S32x128)) (extractStridedSlice S32x128 ![0, 1152] w slices_S32x5120_o0_1152_S32x128)) (extractStridedSlice S32x128 ![0, 1280] w slices_S32x5120_o0_1280_S32x128)) (extractStridedSlice S32x128 ![0, 1408] w slices_S32x5120_o0_1408_S32x128)) (extractStridedSlice S32x128 ![0, 1536] w slices_S32x5120_o0_1536_S32x128)) (extractStridedSlice S32x128 ![0, 1664] w slices_S32x5120_o0_1664_S32x128)) (extractStridedSlice S32x128 ![0, 1792] w slices_S32x5120_o0_1792_S32x128)) (extractStridedSlice S32x128 ![0, 1920] w slices_S32x5120_o0_1920_S32x128)) (extractStridedSlice S32x128 ![0, 2048] w slices_S32x5120_o0_2048_S32x128)) (extractStridedSlice S32x128 ![0, 2176] w slices_S32x5120_o0_2176_S32x128)) (extractStridedSlice S32x128 ![0, 2304] w slices_S32x5120_o0_2304_S32x128)) (extractStridedSlice S32x128 ![0, 2432] w slices_S32x5120_o0_2432_S32x128)) (extractStridedSlice S32x128 ![0, 2560] w slices_S32x5120_o0_2560_S32x128)) (extractStridedSlice S32x128 ![0, 2688] w slices_S32x5120_o0_2688_S32x128)) (extractStridedSlice S32x128 ![0, 2816] w slices_S32x5120_o0_2816_S32x128)) (extractStridedSlice S32x128 ![0, 2944] w slices_S32x5120_o0_2944_S32x128)) (extractStridedSlice S32x128 ![0, 3072] w slices_S32x5120_o0_3072_S32x128)) (extractStridedSlice S32x128 ![0, 3200] w slices_S32x5120_o0_3200_S32x128)) (extractStridedSlice S32x128 ![0, 3328] w slices_S32x5120_o0_3328_S32x128)) (extractStridedSlice S32x128 ![0, 3456] w slices_S32x5120_o0_3456_S32x128)) (extractStridedSlice S32x128 ![0, 3584] w slices_S32x5120_o0_3584_S32x128)) (extractStridedSlice S32x128 ![0, 3712] w slices_S32x5120_o0_3712_S32x128)) (extractStridedSlice S32x128 ![0, 3840] w slices_S32x5120_o0_3840_S32x128)) (extractStridedSlice S32x128 ![0, 3968] w slices_S32x5120_o0_3968_S32x128)) (extractStridedSlice S32x128 ![0, 4096] w slices_S32x5120_o0_4096_S32x128)) (extractStridedSlice S32x128 ![0, 4224] w slices_S32x5120_o0_4224_S32x128)) (extractStridedSlice S32x128 ![0, 4352] w slices_S32x5120_o0_4352_S32x128)) (extractStridedSlice S32x128 ![0, 4480] w slices_S32x5120_o0_4480_S32x128)) (extractStridedSlice S32x128 ![0, 4608] w slices_S32x5120_o0_4608_S32x128)) (extractStridedSlice S32x128 ![0, 4736] w slices_S32x5120_o0_4736_S32x128)) (extractStridedSlice S32x128 ![0, 4864] w slices_S32x5120_o0_4864_S32x128)) (extractStridedSlice S32x128 ![0, 4992] w slices_S32x5120_o0_4992_S32x128))

/-- The forty slices of 128 lanes, their maximum from the left. -/
def lanesMax (w : FVec Ideal S32x5120 .f32) : FVec Ideal S32x128 .f32 :=
  (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (extractStridedSlice S32x128 ![0, 0] w slices_S32x5120_o0_0_S32x128) (extractStridedSlice S32x128 ![0, 128] w slices_S32x5120_o0_128_S32x128)) (extractStridedSlice S32x128 ![0, 256] w slices_S32x5120_o0_256_S32x128)) (extractStridedSlice S32x128 ![0, 384] w slices_S32x5120_o0_384_S32x128)) (extractStridedSlice S32x128 ![0, 512] w slices_S32x5120_o0_512_S32x128)) (extractStridedSlice S32x128 ![0, 640] w slices_S32x5120_o0_640_S32x128)) (extractStridedSlice S32x128 ![0, 768] w slices_S32x5120_o0_768_S32x128)) (extractStridedSlice S32x128 ![0, 896] w slices_S32x5120_o0_896_S32x128)) (extractStridedSlice S32x128 ![0, 1024] w slices_S32x5120_o0_1024_S32x128)) (extractStridedSlice S32x128 ![0, 1152] w slices_S32x5120_o0_1152_S32x128)) (extractStridedSlice S32x128 ![0, 1280] w slices_S32x5120_o0_1280_S32x128)) (extractStridedSlice S32x128 ![0, 1408] w slices_S32x5120_o0_1408_S32x128)) (extractStridedSlice S32x128 ![0, 1536] w slices_S32x5120_o0_1536_S32x128)) (extractStridedSlice S32x128 ![0, 1664] w slices_S32x5120_o0_1664_S32x128)) (extractStridedSlice S32x128 ![0, 1792] w slices_S32x5120_o0_1792_S32x128)) (extractStridedSlice S32x128 ![0, 1920] w slices_S32x5120_o0_1920_S32x128)) (extractStridedSlice S32x128 ![0, 2048] w slices_S32x5120_o0_2048_S32x128)) (extractStridedSlice S32x128 ![0, 2176] w slices_S32x5120_o0_2176_S32x128)) (extractStridedSlice S32x128 ![0, 2304] w slices_S32x5120_o0_2304_S32x128)) (extractStridedSlice S32x128 ![0, 2432] w slices_S32x5120_o0_2432_S32x128)) (extractStridedSlice S32x128 ![0, 2560] w slices_S32x5120_o0_2560_S32x128)) (extractStridedSlice S32x128 ![0, 2688] w slices_S32x5120_o0_2688_S32x128)) (extractStridedSlice S32x128 ![0, 2816] w slices_S32x5120_o0_2816_S32x128)) (extractStridedSlice S32x128 ![0, 2944] w slices_S32x5120_o0_2944_S32x128)) (extractStridedSlice S32x128 ![0, 3072] w slices_S32x5120_o0_3072_S32x128)) (extractStridedSlice S32x128 ![0, 3200] w slices_S32x5120_o0_3200_S32x128)) (extractStridedSlice S32x128 ![0, 3328] w slices_S32x5120_o0_3328_S32x128)) (extractStridedSlice S32x128 ![0, 3456] w slices_S32x5120_o0_3456_S32x128)) (extractStridedSlice S32x128 ![0, 3584] w slices_S32x5120_o0_3584_S32x128)) (extractStridedSlice S32x128 ![0, 3712] w slices_S32x5120_o0_3712_S32x128)) (extractStridedSlice S32x128 ![0, 3840] w slices_S32x5120_o0_3840_S32x128)) (extractStridedSlice S32x128 ![0, 3968] w slices_S32x5120_o0_3968_S32x128)) (extractStridedSlice S32x128 ![0, 4096] w slices_S32x5120_o0_4096_S32x128)) (extractStridedSlice S32x128 ![0, 4224] w slices_S32x5120_o0_4224_S32x128)) (extractStridedSlice S32x128 ![0, 4352] w slices_S32x5120_o0_4352_S32x128)) (extractStridedSlice S32x128 ![0, 4480] w slices_S32x5120_o0_4480_S32x128)) (extractStridedSlice S32x128 ![0, 4608] w slices_S32x5120_o0_4608_S32x128)) (extractStridedSlice S32x128 ![0, 4736] w slices_S32x5120_o0_4736_S32x128)) (extractStridedSlice S32x128 ![0, 4864] w slices_S32x5120_o0_4864_S32x128)) (extractStridedSlice S32x128 ![0, 4992] w slices_S32x5120_o0_4992_S32x128))

/-- The four slices of eight rows, their maximum from the left. -/
def rowsMax (w : FVec Ideal S32x128 .f32) : FVec Ideal S8x128 .f32 :=
  (maximumf (maximumf (maximumf (extractStridedSlice S8x128 ![0, 0] w slices_S32x128_o0_0_S8x128) (extractStridedSlice S8x128 ![8, 0] w slices_S32x128_o8_0_S8x128)) (extractStridedSlice S8x128 ![16, 0] w slices_S32x128_o16_0_S8x128)) (extractStridedSlice S8x128 ![24, 0] w slices_S32x128_o24_0_S8x128))

/-- The normalised rows over the scale. -/
def zrow (gs : FVec Ideal S1x5120 .f32) (v : Vec Ideal S32x5120 .f32) : FVec Ideal S32x5120 .f32 :=
  mulf (mulf (shapeCast S32x5120 v shapeCasts_S32x5120_S32x5120) (broadcastTo S32x5120 (rsqrt (addf (mulf (shapeCast S32x1
    (multiReduction .add [1] S32 (lanesSum (mulf (shapeCast S32x5120 v shapeCasts_S32x5120_S32x5120) (shapeCast S32x5120 v shapeCasts_S32x5120_S32x5120))) 0x00000000#32 reduces_S32x128_S32 (.inl rfl) rfl) shapeCasts_S32_S32x1)
    (broadcast S32x1 (Named.named κ "inv_d" 0x394CCCCD#32))) (broadcast S32x1 (Scalar.ofBits .f32 0x358637BD#32)))) broadcasts_S32x1_S32x5120))
    (broadcastTo S32x5120 gs broadcasts_S1x5120_S32x5120)

/-- The codes of the rows. -/
def crow (gs : FVec Ideal S1x5120 .f32) (v : Vec Ideal S32x5120 .f32) : FVec Ideal S32x5120 .fp8e4m3 :=
  truncf .fp8e4m3 (minimumf (broadcast S32x5120 (Scalar.ofBits .f32 0x43E00000#32)) (maximumf (broadcast S32x5120 (Scalar.ofBits .f32 0xC3E00000#32)) (zrow gs v))) bitsLt_fp8e4m3_f32

/-- The running maximum after the rows. -/
def mrow (gs : FVec Ideal S1x5120 .f32) (acc : FVec Ideal S8x128 .f32) (v : Vec Ideal S32x5120 .f32) : FVec Ideal S8x128 .f32 :=
  maximumf acc (rowsMax (lanesMax (absf (zrow gs v))))

/-- The forty slices added, at an index. -/
theorem lanesSum_apply (w : FVec Ideal S32x5120 .f32) (i : Fin 32) (l : Fin 128) :
    lanesSum w (ix2 i l) = ∑ b : Fin 40, w (ix2 i ⟨128 * b.val + l.val, by omega⟩) := by
  unfold lanesSum
  pointwise
  simp only [Fin.sum_univ_castSucc, Fin.sum_univ_zero, Fin.val_castSucc, Fin.val_last, Nat.reduceMul, Nat.mul_zero, zero_add]

/-- The slices added and then the lanes: the sum over the row. -/
theorem lanesSum_sum (w : FVec Ideal S32x5120 .f32) (i : Fin 32) :
    (∑ l : Fin 128, lanesSum w (ix2 i l) : EReal) = ∑ k : Fin 5120, w (ix2 i k) := by
  rw [Fin.sum_univ_tiles 40 128 rfl (fun k : Fin 5120 => (w (ix2 i k) : EReal)), Finset.sum_comm]
  refine Finset.sum_congr rfl fun l _ => ?_
  rw [lanesSum_apply]
  refine Finset.sum_congr rfl fun b _ => ?_
  congr 3
  omega

/-- The maximum of the forty slices, by its upper bounds. -/
theorem lanesMax_le (w : FVec Ideal S32x5120 .f32) (i : Fin 32) (l : Fin 128) (c : EReal) :
    (lanesMax w (ix2 i l) : EReal) ≤ c ↔ ∀ b : Fin 40, (w (ix2 i ⟨128 * b.val + l.val, by omega⟩) : EReal) ≤ c := by
  unfold lanesMax
  pointwise
  simp only [max_le_iff, Fin.forall_fin_succ, Fin.val_succ, Fin.val_zero, Nat.reduceMul, Nat.reduceAdd, Nat.mul_zero, zero_add, and_assoc, IsEmpty.forall_iff, and_true]

/-- The maximum of the four slices, by its upper bounds. -/
theorem rowsMax_le (w : FVec Ideal S32x128 .f32) (i : Fin 8) (l : Fin 128) (c : EReal) :
    (rowsMax w (ix2 i l) : EReal) ≤ c ↔ ∀ b : Fin 4, (w (ix2 ⟨8 * b.val + i.val, by omega⟩ l) : EReal) ≤ c := by
  unfold rowsMax
  pointwise
  simp only [max_le_iff, Fin.forall_fin_succ, Fin.val_succ, Fin.val_zero, Nat.reduceMul, Nat.reduceAdd, Nat.mul_zero, zero_add, and_assoc, IsEmpty.forall_iff, and_true]

/-- The two folds together bound exactly the entries of the block of rows. -/
theorem fold_le (w : FVec Ideal S32x5120 .f32) (c : EReal) :
    (∀ i l, (rowsMax (lanesMax w) (ix2 i l) : EReal) ≤ c) ↔ ∀ (i : Fin 32) (k : Fin 5120), (w (ix2 i k) : EReal) ≤ c := by
  constructor
  · intro h i k
    have := (lanesMax_le w _ _ c).1 ((rowsMax_le _ ⟨i.val % 8, by omega⟩ ⟨k.val % 128, by omega⟩ c).1 (h _ _) ⟨i.val / 8, by omega⟩) ⟨k.val / 128, by omega⟩
    have hi : (⟨8 * (i.val / 8) + i.val % 8, by omega⟩ : Fin 32) = i := Fin.ext (by simp only []; omega)
    have hk : (⟨128 * (k.val / 128) + k.val % 128, by omega⟩ : Fin 5120) = k := Fin.ext (by simp only []; omega)
    simp only [hi, hk] at this
    exact this
  · intro h i l
    rw [rowsMax_le]
    intro b
    rw [lanesMax_le]
    exact fun b' => h _ _

/-- The normalised rows at an index. -/
theorem zrow_apply (gs : FVec Ideal S1x5120 .f32) (v : Vec Ideal S32x5120 .f32) (i : Fin 32) (j : Fin 5120) :
    zrow gs v (ix2 i j) = v (ix2 i j) * Ideal.rsqrt ((∑ k : Fin 5120, v (ix2 i k) * v (ix2 i k)) * (Named.named κ "inv_d" 0x394CCCCD#32 : Ideal .f32)
      + Ideal.ofBits .f32 0x358637BD#32) * gs (ix2 0 j) := by
  unfold zrow
  pointwise
  rw [lanesSum_sum]
  rfl

/-- The codes of the rows at an index. -/
theorem crow_apply (gs : FVec Ideal S1x5120 .f32) (v : Vec Ideal S32x5120 .f32) (i : Fin 32) (j : Fin 5120) :
    crow gs v (ix2 i j) = min (Ideal.ofBits .f32 0x43E00000#32) (max (Ideal.ofBits .f32 0xC3E00000#32) (zrow gs v (ix2 i j))) := by
  unfold crow
  pointwise

/-- The running maximum after the rows, by its upper bounds. -/
theorem mrow_le (gs : FVec Ideal S1x5120 .f32) (acc : FVec Ideal S8x128 .f32) (v : Vec Ideal S32x5120 .f32) (c : EReal) :
    (∀ i l, (mrow gs acc v (ix2 i l) : EReal) ≤ c)
      ↔ (∀ i l, (acc (ix2 i l) : EReal) ≤ c) ∧ ∀ (i : Fin 32) (k : Fin 5120), max (zrow gs v (ix2 i k)) (-(zrow gs v (ix2 i k))) ≤ c := by
  have h := fold_le (absf (zrow gs v)) c
  have e : ∀ i l, mrow gs acc v (ix2 i l) = max (acc (ix2 i l)) (rowsMax (lanesMax (absf (zrow gs v))) (ix2 i l)) := by
    intro i l
    unfold mrow
    pointwise
  have e2 : ∀ i k, absf (zrow gs v) (ix2 i k) = max (zrow gs v (ix2 i k)) (-(zrow gs v (ix2 i k))) := fun i k => rfl
  constructor
  · intro g
    refine ⟨fun i l => (max_le_iff.1 (e i l ▸ g i l)).1, fun i k => ?_⟩
    rw [← e2]
    exact h.1 (fun i l => (max_le_iff.1 (e i l ▸ g i l)).2) i k
  · rintro ⟨g1, g2⟩ i l
    rw [e]
    exact max_le (g1 i l) (h.2 (fun i k => by rw [e2]; exact g2 i k) i l)

end Cert.GuIdeal.Hand
-- ==== Proof.GuH1.lean ====
/- The first product of the block: what the twenty column pieces leave in the buffer of the residual. -/
module

public import proofs.«01_k».proof.Proof.Gen.GuIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuIdeal.Hand

open Cert.GuIdeal Cert.GuIdeal.Gen

/-- The residual of a block of rows: the input plus the rescaled row by column product. -/
def hVec (x5 : Vec Ideal S256x5120 .bf16) (x6 : Vec Ideal S256x1024 .fp8e4m3) (x8 : Vec Ideal S1024x5120 .fp8e4m3) (a b : Ideal .f32) :
    Vec Ideal S256x5120 .f32 := fun y =>
  x5 (ix2 (y 0) (y 1)) + (∑ k : Fin 1024, x6 (ix2 (y 0) k) * x8 (ix2 k (y 1))) * (a * b)

/-- The twenty column pieces, at an index. -/
theorem canonH_apply (x5 : Vec Ideal S256x5120 .bf16) (x6 : Vec Ideal S256x1024 .fp8e4m3) (x8 : Vec Ideal S1024x5120 .fp8e4m3) (a b : Ideal .f32)
    (y : S256x5120.Idx) : View.canon [⟨Rect.unit ![0, 4864] ![256, 256] inb_S256x5120_S256x256_0_4864, k0_pay28 x6 (k0_pay5 a b) (View.ld x5 (Rect.unit ![0, 4864] ![256, 256] inb_S256x5120_S256x256_0_4864)) (View.ld x8 (Rect.unit ![0, 4864] ![1024, 256] inb_S1024x5120_S1024x256_0_4864))⟩,
      ⟨Rect.unit ![0, 4608] ![256, 256] inb_S256x5120_S256x256_0_4608, k0_pay27 x6 (k0_pay5 a b) (View.ld x5 (Rect.unit ![0, 4608] ![256, 256] inb_S256x5120_S256x256_0_4608)) (View.ld x8 (Rect.unit ![0, 4608] ![1024, 256] inb_S1024x5120_S1024x256_0_4608))⟩,
      ⟨Rect.unit ![0, 4352] ![256, 256] inb_S256x5120_S256x256_0_4352, k0_pay26 x6 (k0_pay5 a b) (View.ld x5 (Rect.unit ![0, 4352] ![256, 256] inb_S256x5120_S256x256_0_4352)) (View.ld x8 (Rect.unit ![0, 4352] ![1024, 256] inb_S1024x5120_S1024x256_0_4352))⟩,
      ⟨Rect.unit ![0, 4096] ![256, 256] inb_S256x5120_S256x256_0_4096, k0_pay25 x6 (k0_pay5 a b) (View.ld x5 (Rect.unit ![0, 4096] ![256, 256] inb_S256x5120_S256x256_0_4096)) (View.ld x8 (Rect.unit ![0, 4096] ![1024, 256] inb_S1024x5120_S1024x256_0_4096))⟩,
      ⟨Rect.unit ![0, 3840] ![256, 256] inb_S256x5120_S256x256_0_3840, k0_pay24 x6 (k0_pay5 a b) (View.ld x5 (Rect.unit ![0, 3840] ![256, 256] inb_S256x5120_S256x256_0_3840)) (View.ld x8 (Rect.unit ![0, 3840] ![1024, 256] inb_S1024x5120_S1024x256_0_3840))⟩,
      ⟨Rect.unit ![0, 3584] ![256, 256] inb_S256x5120_S256x256_0_3584, k0_pay23 x6 (k0_pay5 a b) (View.ld x5 (Rect.unit ![0, 3584] ![256, 256] inb_S256x5120_S256x256_0_3584)) (View.ld x8 (Rect.unit ![0, 3584] ![1024, 256] inb_S1024x5120_S1024x256_0_3584))⟩,
      ⟨Rect.unit ![0, 3328] ![256, 256] inb_S256x5120_S256x256_0_3328, k0_pay22 x6 (k0_pay5 a b) (View.ld x5 (Rect.unit ![0, 3328] ![256, 256] inb_S256x5120_S256x256_0_3328)) (View.ld x8 (Rect.unit ![0, 3328] ![1024, 256] inb_S1024x5120_S1024x256_0_3328))⟩,
      ⟨Rect.unit ![0, 3072] ![256, 256] inb_S256x5120_S256x256_0_3072, k0_pay21 x6 (k0_pay5 a b) (View.ld x5 (Rect.unit ![0, 3072] ![256, 256] inb_S256x5120_S256x256_0_3072)) (View.ld x8 (Rect.unit ![0, 3072] ![1024, 256] inb_S1024x5120_S1024x256_0_3072))⟩,
      ⟨Rect.unit ![0, 2816] ![256, 256] inb_S256x5120_S256x256_0_2816, k0_pay20 x6 (k0_pay5 a b) (View.ld x5 (Rect.unit ![0, 2816] ![256, 256] inb_S256x5120_S256x256_0_2816)) (View.ld x8 (Rect.unit ![0, 2816] ![1024, 256] inb_S1024x5120_S1024x256_0_2816))⟩,
      ⟨Rect.unit ![0, 2560] ![256, 256] inb_S256x5120_S256x256_0_2560, k0_pay19 x6 (k0_pay5 a b) (k0_pay18 (View.ld x5 (Rect.unit ![0, 2560] ![256, 256] inb_S256x5120_S256x256_0_2560))) (View.ld x8 (Rect.unit ![0, 2560] ![1024, 256] inb_S1024x5120_S1024x256_0_2560))⟩,
      ⟨Rect.unit ![0, 2304] ![256, 256] inb_S256x5120_S256x256_0_2304, k0_pay17 x6 (k0_pay5 a b) (View.ld x5 (Rect.unit ![0, 2304] ![256, 256] inb_S256x5120_S256x256_0_2304)) (View.ld x8 (Rect.unit ![0, 2304] ![1024, 256] inb_S1024x5120_S1024x256_0_2304))⟩,
      ⟨Rect.unit ![0, 2048] ![256, 256] inb_S256x5120_S256x256_0_2048, k0_pay16 x6 (k0_pay5 a b) (View.ld x5 (Rect.unit ![0, 2048] ![256, 256] inb_S256x5120_S256x256_0_2048)) (View.ld x8 (Rect.unit ![0, 2048] ![1024, 256] inb_S1024x5120_S1024x256_0_2048))⟩,
      ⟨Rect.unit ![0, 1792] ![256, 256] inb_S256x5120_S256x256_0_1792, k0_pay15 x6 (k0_pay5 a b) (View.ld x5 (Rect.unit ![0, 1792] ![256, 256] inb_S256x5120_S256x256_0_1792)) (View.ld x8 (Rect.unit ![0, 1792] ![1024, 256] inb_S1024x5120_S1024x256_0_1792))⟩,
      ⟨Rect.unit ![0, 1536] ![256, 256] inb_S256x5120_S256x256_0_1536, k0_pay14 (k0_pay5 a b) (k0_pay12 (View.ld x5 (Rect.unit ![0, 1536] ![256, 256] inb_S256x5120_S256x256_0_1536))) (k0_pay13 x6 (View.ld x8 (Rect.unit ![0, 1536] ![1024, 256] inb_S1024x5120_S1024x256_0_1536)))⟩,
      ⟨Rect.unit ![0, 1280] ![256, 256] inb_S256x5120_S256x256_0_1280, k0_pay11 x6 (k0_pay5 a b) (View.ld x5 (Rect.unit ![0, 1280] ![256, 256] inb_S256x5120_S256x256_0_1280)) (View.ld x8 (Rect.unit ![0, 1280] ![1024, 256] inb_S1024x5120_S1024x256_0_1280))⟩,
      ⟨Rect.unit ![0, 1024] ![256, 256] inb_S256x5120_S256x256_0_1024, k0_pay10 x6 (k0_pay5 a b) (View.ld x5 (Rect.unit ![0, 1024] ![256, 256] inb_S256x5120_S256x256_0_1024)) (View.ld x8 (Rect.unit ![0, 1024] ![1024, 256] inb_S1024x5120_S1024x256_0_1024))⟩,
      ⟨Rect.unit ![0, 768] ![256, 256] inb_S256x5120_S256x256_0_768, k0_pay9 x6 (k0_pay5 a b) (View.ld x5 (Rect.unit ![0, 768] ![256, 256] inb_S256x5120_S256x256_0_768)) (View.ld x8 (Rect.unit ![0, 768] ![1024, 256] inb_S1024x5120_S1024x256_0_768))⟩,
      ⟨Rect.unit ![0, 512] ![256, 256] inb_S256x5120_S256x256_0_512, k0_pay8 x6 a b (View.ld x5 (Rect.unit ![0, 512] ![256, 256] inb_S256x5120_S256x256_0_512)) (View.ld x8 (Rect.unit ![0, 512] ![1024, 256] inb_S1024x5120_S1024x256_0_512))⟩,
      ⟨Rect.unit ![0, 256] ![256, 256] inb_S256x5120_S256x256_0_256, k0_pay7 x6 a b (View.ld x5 (Rect.unit ![0, 256] ![256, 256] inb_S256x5120_S256x256_0_256)) (View.ld x8 (Rect.unit ![0, 256] ![1024, 256] inb_S1024x5120_S1024x256_0_256))⟩,
      ⟨Rect.unit ![0, 0] ![256, 256] inb_S256x5120_S256x256_0_0, k0_pay6 x6 a b (View.ld x5 (Rect.unit ![0, 0] ![256, 256] inb_S256x5120_S256x256_0_0)) (View.ld x8 (Rect.unit ![0, 0] ![1024, 256] inb_S1024x5120_S1024x256_0_0))⟩] y = hVec x5 x6 x8 a b y := by
  unfold hVec
  canon_tiles x h
  all_goals (open_payloads; pointwise [Memref.IsWhole.read_unread]; blk_point [])

/-- The twenty column pieces together are the residual of the block. -/
theorem canonH (x5 : Vec Ideal S256x5120 .bf16) (x6 : Vec Ideal S256x1024 .fp8e4m3) (x8 : Vec Ideal S1024x5120 .fp8e4m3) (a b : Ideal .f32) :
    View.canon [⟨Rect.unit ![0, 4864] ![256, 256] inb_S256x5120_S256x256_0_4864, k0_pay28 x6 (k0_pay5 a b) (View.ld x5 (Rect.unit ![0, 4864] ![256, 256] inb_S256x5120_S256x256_0_4864)) (View.ld x8 (Rect.unit ![0, 4864] ![1024, 256] inb_S1024x5120_S1024x256_0_4864))⟩,
      ⟨Rect.unit ![0, 4608] ![256, 256] inb_S256x5120_S256x256_0_4608, k0_pay27 x6 (k0_pay5 a b) (View.ld x5 (Rect.unit ![0, 4608] ![256, 256] inb_S256x5120_S256x256_0_4608)) (View.ld x8 (Rect.unit ![0, 4608] ![1024, 256] inb_S1024x5120_S1024x256_0_4608))⟩,
      ⟨Rect.unit ![0, 4352] ![256, 256] inb_S256x5120_S256x256_0_4352, k0_pay26 x6 (k0_pay5 a b) (View.ld x5 (Rect.unit ![0, 4352] ![256, 256] inb_S256x5120_S256x256_0_4352)) (View.ld x8 (Rect.unit ![0, 4352] ![1024, 256] inb_S1024x5120_S1024x256_0_4352))⟩,
      ⟨Rect.unit ![0, 4096] ![256, 256] inb_S256x5120_S256x256_0_4096, k0_pay25 x6 (k0_pay5 a b) (View.ld x5 (Rect.unit ![0, 4096] ![256, 256] inb_S256x5120_S256x256_0_4096)) (View.ld x8 (Rect.unit ![0, 4096] ![1024, 256] inb_S1024x5120_S1024x256_0_4096))⟩,
      ⟨Rect.unit ![0, 3840] ![256, 256] inb_S256x5120_S256x256_0_3840, k0_pay24 x6 (k0_pay5 a b) (View.ld x5 (Rect.unit ![0, 3840] ![256, 256] inb_S256x5120_S256x256_0_3840)) (View.ld x8 (Rect.unit ![0, 3840] ![1024, 256] inb_S1024x5120_S1024x256_0_3840))⟩,
      ⟨Rect.unit ![0, 3584] ![256, 256] inb_S256x5120_S256x256_0_3584, k0_pay23 x6 (k0_pay5 a b) (View.ld x5 (Rect.unit ![0, 3584] ![256, 256] inb_S256x5120_S256x256_0_3584)) (View.ld x8 (Rect.unit ![0, 3584] ![1024, 256] inb_S1024x5120_S1024x256_0_3584))⟩,
      ⟨Rect.unit ![0, 3328] ![256, 256] inb_S256x5120_S256x256_0_3328, k0_pay22 x6 (k0_pay5 a b) (View.ld x5 (Rect.unit ![0, 3328] ![256, 256] inb_S256x5120_S256x256_0_3328)) (View.ld x8 (Rect.unit ![0, 3328] ![1024, 256] inb_S1024x5120_S1024x256_0_3328))⟩,
      ⟨Rect.unit ![0, 3072] ![256, 256] inb_S256x5120_S256x256_0_3072, k0_pay21 x6 (k0_pay5 a b) (View.ld x5 (Rect.unit ![0, 3072] ![256, 256] inb_S256x5120_S256x256_0_3072)) (View.ld x8 (Rect.unit ![0, 3072] ![1024, 256] inb_S1024x5120_S1024x256_0_3072))⟩,
      ⟨Rect.unit ![0, 2816] ![256, 256] inb_S256x5120_S256x256_0_2816, k0_pay20 x6 (k0_pay5 a b) (View.ld x5 (Rect.unit ![0, 2816] ![256, 256] inb_S256x5120_S256x256_0_2816)) (View.ld x8 (Rect.unit ![0, 2816] ![1024, 256] inb_S1024x5120_S1024x256_0_2816))⟩,
      ⟨Rect.unit ![0, 2560] ![256, 256] inb_S256x5120_S256x256_0_2560, k0_pay19 x6 (k0_pay5 a b) (k0_pay18 (View.ld x5 (Rect.unit ![0, 2560] ![256, 256] inb_S256x5120_S256x256_0_2560))) (View.ld x8 (Rect.unit ![0, 2560] ![1024, 256] inb_S1024x5120_S1024x256_0_2560))⟩,
      ⟨Rect.unit ![0, 2304] ![256, 256] inb_S256x5120_S256x256_0_2304, k0_pay17 x6 (k0_pay5 a b) (View.ld x5 (Rect.unit ![0, 2304] ![256, 256] inb_S256x5120_S256x256_0_2304)) (View.ld x8 (Rect.unit ![0, 2304] ![1024, 256] inb_S1024x5120_S1024x256_0_2304))⟩,
      ⟨Rect.unit ![0, 2048] ![256, 256] inb_S256x5120_S256x256_0_2048, k0_pay16 x6 (k0_pay5 a b) (View.ld x5 (Rect.unit ![0, 2048] ![256, 256] inb_S256x5120_S256x256_0_2048)) (View.ld x8 (Rect.unit ![0, 2048] ![1024, 256] inb_S1024x5120_S1024x256_0_2048))⟩,
      ⟨Rect.unit ![0, 1792] ![256, 256] inb_S256x5120_S256x256_0_1792, k0_pay15 x6 (k0_pay5 a b) (View.ld x5 (Rect.unit ![0, 1792] ![256, 256] inb_S256x5120_S256x256_0_1792)) (View.ld x8 (Rect.unit ![0, 1792] ![1024, 256] inb_S1024x5120_S1024x256_0_1792))⟩,
      ⟨Rect.unit ![0, 1536] ![256, 256] inb_S256x5120_S256x256_0_1536, k0_pay14 (k0_pay5 a b) (k0_pay12 (View.ld x5 (Rect.unit ![0, 1536] ![256, 256] inb_S256x5120_S256x256_0_1536))) (k0_pay13 x6 (View.ld x8 (Rect.unit ![0, 1536] ![1024, 256] inb_S1024x5120_S1024x256_0_1536)))⟩,
      ⟨Rect.unit ![0, 1280] ![256, 256] inb_S256x5120_S256x256_0_1280, k0_pay11 x6 (k0_pay5 a b) (View.ld x5 (Rect.unit ![0, 1280] ![256, 256] inb_S256x5120_S256x256_0_1280)) (View.ld x8 (Rect.unit ![0, 1280] ![1024, 256] inb_S1024x5120_S1024x256_0_1280))⟩,
      ⟨Rect.unit ![0, 1024] ![256, 256] inb_S256x5120_S256x256_0_1024, k0_pay10 x6 (k0_pay5 a b) (View.ld x5 (Rect.unit ![0, 1024] ![256, 256] inb_S256x5120_S256x256_0_1024)) (View.ld x8 (Rect.unit ![0, 1024] ![1024, 256] inb_S1024x5120_S1024x256_0_1024))⟩,
      ⟨Rect.unit ![0, 768] ![256, 256] inb_S256x5120_S256x256_0_768, k0_pay9 x6 (k0_pay5 a b) (View.ld x5 (Rect.unit ![0, 768] ![256, 256] inb_S256x5120_S256x256_0_768)) (View.ld x8 (Rect.unit ![0, 768] ![1024, 256] inb_S1024x5120_S1024x256_0_768))⟩,
      ⟨Rect.unit ![0, 512] ![256, 256] inb_S256x5120_S256x256_0_512, k0_pay8 x6 a b (View.ld x5 (Rect.unit ![0, 512] ![256, 256] inb_S256x5120_S256x256_0_512)) (View.ld x8 (Rect.unit ![0, 512] ![1024, 256] inb_S1024x5120_S1024x256_0_512))⟩,
      ⟨Rect.unit ![0, 256] ![256, 256] inb_S256x5120_S256x256_0_256, k0_pay7 x6 a b (View.ld x5 (Rect.unit ![0, 256] ![256, 256] inb_S256x5120_S256x256_0_256)) (View.ld x8 (Rect.unit ![0, 256] ![1024, 256] inb_S1024x5120_S1024x256_0_256))⟩,
      ⟨Rect.unit ![0, 0] ![256, 256] inb_S256x5120_S256x256_0_0, k0_pay6 x6 a b (View.ld x5 (Rect.unit ![0, 0] ![256, 256] inb_S256x5120_S256x256_0_0)) (View.ld x8 (Rect.unit ![0, 0] ![1024, 256] inb_S1024x5120_S1024x256_0_0))⟩] = hVec x5 x6 x8 a b := funext fun y => canonH_apply x5 x6 x8 a b y

end Cert.GuIdeal.Hand
-- ==== Proof.GuBlk.lean ====
/- The eight blocks of rows of a block of the grid: the codes they leave, and the running maximum after them. -/
module

public import proofs.«01_k».proof.Proof.GuRow
public import proofs.«01_k».proof.Proof.GuH1
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuIdeal.Hand

open Cert.GuIdeal Cert.GuIdeal.Gen

/-- Thirty-two rows of the block. -/
def rowOf (H : Vec Ideal S256x5120 .f32) (r : ℕ) (inb : ∀ a, (![r, 0] : Fin 2 → ℕ) a + (![32, 5120] : Fin 2 → ℕ) a ≤ S256x5120.size a) : Vec Ideal S32x5120 .f32 :=
  fun j => H ((Rect.unit (s := S256x5120) ![r, 0] ![32, 5120] inb).toLoadRect.idx j)

/-- The normalised block over the scale, at an index. -/
def zVec (gs : FVec Ideal S1x5120 .f32) (H : Vec Ideal S256x5120 .f32) : FVec Ideal S256x5120 .f32 := fun y =>
  H (ix2 (y 0) (y 1)) * Ideal.rsqrt ((∑ k : Fin 5120, H (ix2 (y 0) k) * H (ix2 (y 0) k)) * (Named.named κ "inv_d" 0x394CCCCD#32 : Ideal .f32)
      + Ideal.ofBits .f32 0x358637BD#32) * gs (ix2 0 (y 1))

/-- The codes of the block, at an index. -/
def cVec (gs : FVec Ideal S1x5120 .f32) (H : Vec Ideal S256x5120 .f32) : FVec Ideal S256x5120 .fp8e4m3 := fun y =>
  min (Ideal.ofBits .f32 0x43E00000#32) (max (Ideal.ofBits .f32 0xC3E00000#32) (zVec gs H y))

/-- The running maximum after the eight blocks of rows. -/
def mVec (gs : FVec Ideal S1x5120 .f32) (acc : FVec Ideal S8x128 .f32) (H : Vec Ideal S256x5120 .f32) : FVec Ideal S8x128 .f32 :=
  (mrow gs (mrow gs (mrow gs (mrow gs (mrow gs (mrow gs (mrow gs (mrow gs acc (rowOf H 0 inb_S256x5120_S32x5120_0_0)) (rowOf H 32 inb_S256x5120_S32x5120_32_0)) (rowOf H 64 inb_S256x5120_S32x5120_64_0)) (rowOf H 96 inb_S256x5120_S32x5120_96_0)) (rowOf H 128 inb_S256x5120_S32x5120_128_0)) (rowOf H 160 inb_S256x5120_S32x5120_160_0)) (rowOf H 192 inb_S256x5120_S32x5120_192_0)) (rowOf H 224 inb_S256x5120_S32x5120_224_0))

/-- The rows of the block at an index. -/
theorem rowOf_apply (H : Vec Ideal S256x5120 .f32) (r : ℕ) (inb) (i : Fin 32) (k : Fin 5120) :
    rowOf H r inb (ix2 i k) = H (ix2 ⟨r + i.val, by have h : r + 32 ≤ 256 := inb 0; omega⟩ k) := by
  unfold rowOf
  blk_point []
  · show r + 1 * i.val = r + i.val
    omega
  · show 0 + 1 * k.val = k.val
    omega

/-- The normalised rows are the rows of the normalised block. -/
theorem zrow_rowOf (gs : FVec Ideal S1x5120 .f32) (H : Vec Ideal S256x5120 .f32) (r : ℕ) (inb) (i : Fin 32) (k : Fin 5120) :
    zrow gs (rowOf H r inb) (ix2 i k) = zVec gs H (ix2 ⟨r + i.val, by have h : r + 32 ≤ 256 := inb 0; omega⟩ k) := by
  rw [zrow_apply]
  simp only [rowOf_apply]
  rfl

/-- The codes of the rows are the rows of the codes of the block. -/
theorem crow_rowOf (gs : FVec Ideal S1x5120 .f32) (H : Vec Ideal S256x5120 .f32) (r : ℕ) (inb) (x : S32x5120.Idx) :
    crow gs (rowOf H r inb) x = cVec gs H (ix2 ⟨r + (x 0).val, by have h : r + 32 ≤ 256 := inb 0; have h' : (x 0).val < 32 := (x 0).isLt; omega⟩ (x 1)) := by
  obtain ⟨i, j, rfl⟩ : ∃ (i : Fin 32) (j : Fin 5120), x = ix2 i j := ⟨x 0, x 1, eq_ix2 x⟩
  rw [crow_apply, zrow_rowOf]
  rfl

/-- Eight blocks of rows, each the codes of its rows, are the codes of the block. -/
theorem canonC_rows (gs : FVec Ideal S1x5120 .f32) (H : Vec Ideal S256x5120 .f32) (y : S256x5120.Idx) :
    View.canon [(⟨Rect.unit ![224, 0] ![32, 5120] inb_S256x5120_S32x5120_224_0, crow gs (rowOf H 224 inb_S256x5120_S32x5120_224_0)⟩ : View.Piece (Elt Ideal) S256x5120 .fp8e4m3), (⟨Rect.unit ![192, 0] ![32, 5120] inb_S256x5120_S32x5120_192_0, crow gs (rowOf H 192 inb_S256x5120_S32x5120_192_0)⟩ : View.Piece (Elt Ideal) S256x5120 .fp8e4m3), (⟨Rect.unit ![160, 0] ![32, 5120] inb_S256x5120_S32x5120_160_0, crow gs (rowOf H 160 inb_S256x5120_S32x5120_160_0)⟩ : View.Piece (Elt Ideal) S256x5120 .fp8e4m3), (⟨Rect.unit ![128, 0] ![32, 5120] inb_S256x5120_S32x5120_128_0, crow gs (rowOf H 128 inb_S256x5120_S32x5120_128_0)⟩ : View.Piece (Elt Ideal) S256x5120 .fp8e4m3), (⟨Rect.unit ![96, 0] ![32, 5120] inb_S256x5120_S32x5120_96_0, crow gs (rowOf H 96 inb_S256x5120_S32x5120_96_0)⟩ : View.Piece (Elt Ideal) S256x5120 .fp8e4m3), (⟨Rect.unit ![64, 0] ![32, 5120] inb_S256x5120_S32x5120_64_0, crow gs (rowOf H 64 inb_S256x5120_S32x5120_64_0)⟩ : View.Piece (Elt Ideal) S256x5120 .fp8e4m3), (⟨Rect.unit ![32, 0] ![32, 5120] inb_S256x5120_S32x5120_32_0, crow gs (rowOf H 32 inb_S256x5120_S32x5120_32_0)⟩ : View.Piece (Elt Ideal) S256x5120 .fp8e4m3), (⟨Rect.unit ![0, 0] ![32, 5120] inb_S256x5120_S32x5120_0_0, crow gs (rowOf H 0 inb_S256x5120_S32x5120_0_0)⟩ : View.Piece (Elt Ideal) S256x5120 .fp8e4m3)] y = cVec gs H y := by
  canon_tiles x h
  all_goals
    refine (crow_rowOf _ _ _ _ x).trans (congrArg (cVec gs H) ?_)
    blk_point []

/-- The eight blocks of rows as the kernel prints them. -/
theorem canonC_pays (gs : FVec Ideal S1x5120 .f32) (V0 V32 V64 V96 V128 V160 V192 V224 : Vec Ideal S32x5120 .f32) :
    View.canon [(⟨Rect.unit ![224, 0] ![32, 5120] inb_S256x5120_S32x5120_224_0, k0_pay509 (k0_pay472 gs (k0_pay450 V224) (k0_pay460 (k0_pay451 V224)) (k0_pay461 (k0_pay451 V224)) (k0_pay462 (k0_pay451 V224)) (k0_pay463 (k0_pay451 V224)) (k0_pay464 (k0_pay451 V224)) (k0_pay465 (k0_pay451 V224)) (k0_pay466 (k0_pay451 V224)) (k0_pay467 (k0_pay451 V224)) (k0_pay468 (k0_pay451 V224)) (k0_pay469 (k0_pay451 V224)) (k0_pay470 (k0_pay451 V224)) (k0_pay471 (k0_pay451 V224) (k0_pay452 V224) (k0_pay453 V224) (k0_pay454 V224) (k0_pay455 V224) (k0_pay456 V224) (k0_pay457 V224) (k0_pay458 V224) (k0_pay459 V224)))⟩ : View.Piece (Elt Ideal) S256x5120 .fp8e4m3),
      (⟨Rect.unit ![192, 0] ![32, 5120] inb_S256x5120_S32x5120_192_0, k0_pay449 (k0_pay417 gs (k0_pay389 V192) (k0_pay416 (k0_pay390 V192) (k0_pay391 V192) (k0_pay392 V192) (k0_pay393 V192) (k0_pay394 V192) (k0_pay395 V192) (k0_pay396 V192) (k0_pay397 V192) (k0_pay398 V192) (k0_pay399 V192) (k0_pay400 V192) (k0_pay401 V192) (k0_pay402 V192) (k0_pay403 V192) (k0_pay404 V192) (k0_pay405 V192) (k0_pay406 V192) (k0_pay407 V192) (k0_pay408 V192) (k0_pay409 V192) (k0_pay410 V192) (k0_pay411 V192) (k0_pay412 V192) (k0_pay413 V192) (k0_pay414 V192) (k0_pay415 V192)))⟩ : View.Piece (Elt Ideal) S256x5120 .fp8e4m3),
      (⟨Rect.unit ![160, 0] ![32, 5120] inb_S256x5120_S32x5120_160_0, k0_pay388 (k0_pay365 gs (k0_pay325 V160) (k0_pay327 V160) (k0_pay328 V160) (k0_pay329 V160) (k0_pay330 V160) (k0_pay331 V160) (k0_pay332 V160) (k0_pay333 V160) (k0_pay334 V160) (k0_pay335 V160) (k0_pay336 V160) (k0_pay337 V160) (k0_pay338 V160) (k0_pay339 V160) (k0_pay340 V160) (k0_pay341 V160) (k0_pay342 V160) (k0_pay343 V160) (k0_pay344 V160) (k0_pay345 V160) (k0_pay346 V160) (k0_pay347 V160) (k0_pay348 V160) (k0_pay349 V160) (k0_pay350 V160) (k0_pay351 V160) (k0_pay352 V160) (k0_pay353 V160) (k0_pay354 V160) (k0_pay355 V160) (k0_pay356 V160) (k0_pay357 V160) (k0_pay358 V160) (k0_pay359 V160) (k0_pay360 V160) (k0_pay361 V160) (k0_pay362 V160) (k0_pay363 V160) (k0_pay364 V160))⟩ : View.Piece (Elt Ideal) S256x5120 .fp8e4m3),
      (⟨Rect.unit ![128, 0] ![32, 5120] inb_S256x5120_S32x5120_128_0, k0_pay324 (k0_pay293 gs (k0_pay270 V128) (k0_pay272 (k0_pay270 V128)) (k0_pay273 (k0_pay270 V128)) (k0_pay274 (k0_pay270 V128)) (k0_pay275 (k0_pay270 V128)) (k0_pay276 (k0_pay270 V128)) (k0_pay277 (k0_pay270 V128)) (k0_pay278 (k0_pay270 V128)) (k0_pay279 (k0_pay270 V128)) (k0_pay280 (k0_pay270 V128)) (k0_pay281 (k0_pay270 V128)) (k0_pay282 (k0_pay270 V128)) (k0_pay283 (k0_pay270 V128)) (k0_pay284 (k0_pay270 V128)) (k0_pay285 (k0_pay270 V128)) (k0_pay286 (k0_pay270 V128)) (k0_pay287 (k0_pay270 V128)) (k0_pay288 (k0_pay270 V128)) (k0_pay289 (k0_pay270 V128)) (k0_pay290 (k0_pay270 V128)) (k0_pay291 (k0_pay270 V128)) (k0_pay292 (k0_pay270 V128)))⟩ : View.Piece (Elt Ideal) S256x5120 .fp8e4m3),
      (⟨Rect.unit ![96, 0] ![32, 5120] inb_S256x5120_S32x5120_96_0, k0_pay269 (k0_pay228 gs (k0_pay206 V96) (k0_pay224 (k0_pay207 V96)) (k0_pay225 (k0_pay207 V96)) (k0_pay226 (k0_pay207 V96)) (k0_pay227 (k0_pay207 V96) (k0_pay208 V96) (k0_pay209 V96) (k0_pay210 V96) (k0_pay211 V96) (k0_pay212 V96) (k0_pay213 V96) (k0_pay214 V96) (k0_pay215 V96) (k0_pay216 V96) (k0_pay217 V96) (k0_pay218 V96) (k0_pay219 V96) (k0_pay220 V96) (k0_pay221 V96) (k0_pay222 V96) (k0_pay223 V96)))⟩ : View.Piece (Elt Ideal) S256x5120 .fp8e4m3),
      (⟨Rect.unit ![64, 0] ![32, 5120] inb_S256x5120_S32x5120_64_0, k0_pay205 (k0_pay181 gs (k0_pay146 V64) (k0_pay147 V64) (k0_pay148 V64) (k0_pay149 V64) (k0_pay150 V64) (k0_pay151 V64) (k0_pay152 V64) (k0_pay153 V64) (k0_pay154 V64) (k0_pay155 V64) (k0_pay156 V64) (k0_pay157 V64) (k0_pay158 V64) (k0_pay159 V64) (k0_pay160 V64) (k0_pay161 V64) (k0_pay162 V64) (k0_pay163 V64) (k0_pay164 V64) (k0_pay165 V64) (k0_pay166 V64) (k0_pay167 V64) (k0_pay168 V64) (k0_pay169 V64) (k0_pay170 V64) (k0_pay171 V64) (k0_pay172 V64) (k0_pay173 V64) (k0_pay174 V64) (k0_pay175 V64) (k0_pay176 V64) (k0_pay177 V64) (k0_pay178 V64) (k0_pay179 V64) (k0_pay180 V64))⟩ : View.Piece (Elt Ideal) S256x5120 .fp8e4m3),
      (⟨Rect.unit ![32, 0] ![32, 5120] inb_S256x5120_S32x5120_32_0, k0_pay145 (k0_pay122 gs (k0_pay90 V32) (k0_pay92 V32) (k0_pay93 V32) (k0_pay94 V32) (k0_pay95 V32) (k0_pay96 V32) (k0_pay97 V32) (k0_pay98 V32) (k0_pay99 V32) (k0_pay100 V32) (k0_pay101 V32) (k0_pay102 V32) (k0_pay103 V32) (k0_pay104 V32) (k0_pay105 V32) (k0_pay106 V32) (k0_pay107 V32) (k0_pay108 V32) (k0_pay109 V32) (k0_pay110 V32) (k0_pay111 V32) (k0_pay112 V32) (k0_pay113 V32) (k0_pay114 V32) (k0_pay115 V32) (k0_pay116 V32) (k0_pay117 V32) (k0_pay118 V32) (k0_pay119 V32) (k0_pay120 V32) (k0_pay121 V32))⟩ : View.Piece (Elt Ideal) S256x5120 .fp8e4m3),
      (⟨Rect.unit ![0, 0] ![32, 5120] inb_S256x5120_S32x5120_0_0, k0_pay89 (k0_pay88 (k0_pay52 gs (k0_pay30 V0) (k0_pay39 (k0_pay31 V0)) (k0_pay40 (k0_pay31 V0)) (k0_pay41 (k0_pay31 V0)) (k0_pay42 (k0_pay31 V0)) (k0_pay43 (k0_pay31 V0)) (k0_pay44 (k0_pay31 V0)) (k0_pay45 (k0_pay31 V0)) (k0_pay46 (k0_pay31 V0)) (k0_pay47 (k0_pay31 V0)) (k0_pay48 (k0_pay31 V0)) (k0_pay49 (k0_pay31 V0)) (k0_pay50 (k0_pay31 V0)) (k0_pay51 (k0_pay31 V0) (k0_pay32 V0) (k0_pay33 V0) (k0_pay34 V0) (k0_pay35 V0) (k0_pay36 V0) (k0_pay37 V0) (k0_pay38 V0))))⟩ : View.Piece (Elt Ideal) S256x5120 .fp8e4m3)] =
    View.canon [(⟨Rect.unit ![224, 0] ![32, 5120] inb_S256x5120_S32x5120_224_0, crow gs V224⟩ : View.Piece (Elt Ideal) S256x5120 .fp8e4m3), (⟨Rect.unit ![192, 0] ![32, 5120] inb_S256x5120_S32x5120_192_0, crow gs V192⟩ : View.Piece (Elt Ideal) S256x5120 .fp8e4m3), (⟨Rect.unit ![160, 0] ![32, 5120] inb_S256x5120_S32x5120_160_0, crow gs V160⟩ : View.Piece (Elt Ideal) S256x5120 .fp8e4m3), (⟨Rect.unit ![128, 0] ![32, 5120] inb_S256x5120_S32x5120_128_0, crow gs V128⟩ : View.Piece (Elt Ideal) S256x5120 .fp8e4m3), (⟨Rect.unit ![96, 0] ![32, 5120] inb_S256x5120_S32x5120_96_0, crow gs V96⟩ : View.Piece (Elt Ideal) S256x5120 .fp8e4m3), (⟨Rect.unit ![64, 0] ![32, 5120] inb_S256x5120_S32x5120_64_0, crow gs V64⟩ : View.Piece (Elt Ideal) S256x5120 .fp8e4m3), (⟨Rect.unit ![32, 0] ![32, 5120] inb_S256x5120_S32x5120_32_0, crow gs V32⟩ : View.Piece (Elt Ideal) S256x5120 .fp8e4m3), (⟨Rect.unit ![0, 0] ![32, 5120] inb_S256x5120_S32x5120_0_0, crow gs V0⟩ : View.Piece (Elt Ideal) S256x5120 .fp8e4m3)] := rfl

/-- Eight blocks of rows, each the codes of its rows, are the codes of the block. -/
theorem canonC (gs : FVec Ideal S1x5120 .f32) (H : Vec Ideal S256x5120 .f32) :
    View.canon [(⟨Rect.unit ![224, 0] ![32, 5120] inb_S256x5120_S32x5120_224_0, crow gs (rowOf H 224 inb_S256x5120_S32x5120_224_0)⟩ : View.Piece (Elt Ideal) S256x5120 .fp8e4m3), (⟨Rect.unit ![192, 0] ![32, 5120] inb_S256x5120_S32x5120_192_0, crow gs (rowOf H 192 inb_S256x5120_S32x5120_192_0)⟩ : View.Piece (Elt Ideal) S256x5120 .fp8e4m3), (⟨Rect.unit ![160, 0] ![32, 5120] inb_S256x5120_S32x5120_160_0, crow gs (rowOf H 160 inb_S256x5120_S32x5120_160_0)⟩ : View.Piece (Elt Ideal) S256x5120 .fp8e4m3), (⟨Rect.unit ![128, 0] ![32, 5120] inb_S256x5120_S32x5120_128_0, crow gs (rowOf H 128 inb_S256x5120_S32x5120_128_0)⟩ : View.Piece (Elt Ideal) S256x5120 .fp8e4m3), (⟨Rect.unit ![96, 0] ![32, 5120] inb_S256x5120_S32x5120_96_0, crow gs (rowOf H 96 inb_S256x5120_S32x5120_96_0)⟩ : View.Piece (Elt Ideal) S256x5120 .fp8e4m3), (⟨Rect.unit ![64, 0] ![32, 5120] inb_S256x5120_S32x5120_64_0, crow gs (rowOf H 64 inb_S256x5120_S32x5120_64_0)⟩ : View.Piece (Elt Ideal) S256x5120 .fp8e4m3), (⟨Rect.unit ![32, 0] ![32, 5120] inb_S256x5120_S32x5120_32_0, crow gs (rowOf H 32 inb_S256x5120_S32x5120_32_0)⟩ : View.Piece (Elt Ideal) S256x5120 .fp8e4m3), (⟨Rect.unit ![0, 0] ![32, 5120] inb_S256x5120_S32x5120_0_0, crow gs (rowOf H 0 inb_S256x5120_S32x5120_0_0)⟩ : View.Piece (Elt Ideal) S256x5120 .fp8e4m3)] = cVec gs H := funext fun y => canonC_rows gs H y

/-- The upper bounds of the running maximum. -/
theorem mVec_le (gs : FVec Ideal S1x5120 .f32) (acc : FVec Ideal S8x128 .f32) (H : Vec Ideal S256x5120 .f32) (c : EReal) :
    (∀ i l, (mVec gs acc H (ix2 i l) : EReal) ≤ c)
      ↔ (∀ i l, (acc (ix2 i l) : EReal) ≤ c) ∧ ∀ (i : Fin 256) (k : Fin 5120), max (zVec gs H (ix2 i k)) (-(zVec gs H (ix2 i k))) ≤ c := by
  unfold mVec
  simp only [mrow_le, zrow_rowOf, and_assoc]
  refine and_congr_right fun _ => ?_
  constructor
  · rintro ⟨h0, h1, h2, h3, h4, h5, h6, h7⟩ i k
    have key : ∀ r, r + 32 ≤ 256 → (∀ (j : Fin 32) (k : Fin 5120) (hj : r + j.val < 256), max (zVec gs H (ix2 ⟨r + j.val, hj⟩ k)) (-(zVec gs H (ix2 ⟨r + j.val, hj⟩ k))) ≤ c)
        → r ≤ i.val → i.val < r + 32 → max (zVec gs H (ix2 i k)) (-(zVec gs H (ix2 i k))) ≤ c := by
      intro r hr h a b
      have e : (⟨r + (i.val - r), by omega⟩ : Fin 256) = i := Fin.ext (by simp only []; omega)
      have := h ⟨i.val - r, by omega⟩ k (by simp only []; omega)
      simpa only [e] using this
    have hi := i.isLt
    rcases (by omega : i.val < 32 ∨ (32 ≤ i.val ∧ i.val < 64) ∨ (64 ≤ i.val ∧ i.val < 96) ∨ (96 ≤ i.val ∧ i.val < 128) ∨ (128 ≤ i.val ∧ i.val < 160)
      ∨ (160 ≤ i.val ∧ i.val < 192) ∨ (192 ≤ i.val ∧ i.val < 224) ∨ (224 ≤ i.val ∧ i.val < 256)) with q | q | q | q | q | q | q | q
    · exact key 0 (by omega) (fun j k _ => h0 j k) (by omega) (by omega)
    · exact key 32 (by omega) (fun j k _ => h1 j k) (by omega) (by omega)
    · exact key 64 (by omega) (fun j k _ => h2 j k) (by omega) (by omega)
    · exact key 96 (by omega) (fun j k _ => h3 j k) (by omega) (by omega)
    · exact key 128 (by omega) (fun j k _ => h4 j k) (by omega) (by omega)
    · exact key 160 (by omega) (fun j k _ => h5 j k) (by omega) (by omega)
    · exact key 192 (by omega) (fun j k _ => h6 j k) (by omega) (by omega)
    · exact key 224 (by omega) (fun j k _ => h7 j k) (by omega) (by omega)
  · exact fun h => ⟨fun _ _ => h _ _, fun _ _ => h _ _, fun _ _ => h _ _, fun _ _ => h _ _, fun _ _ => h _ _, fun _ _ => h _ _, fun _ _ => h _ _, fun _ _ => h _ _⟩

end Cert.GuIdeal.Hand
-- ==== Proof.GuHid.lean ====
/- The gated hidden block: its thirteen column pieces, their codes and the running maximum of their magnitudes. -/
module

public import proofs.«01_k».proof.Proof.GuBlk
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuIdeal.Hand

open Cert.GuIdeal Cert.GuIdeal.Gen

/-- A piece of 256 columns of the gated hidden block, as the kernel computes it. -/
def hidW (C : FVec Ideal S256x5120 .fp8e4m3) (sg : Ideal .f32) (w1 w2 : Vec Ideal S5120x256 .fp8e4m3) : FVec Ideal S256x256 .f32 :=
  mulf (mulf (mulf (matmul (φ₂ := .fp8e4m3) dot_S256x5120_S5120x256_S256x256_1_0_0_1_n_n none C w1 (constant S256x256 .f32 0x00000000#32)) (broadcast S256x256 sg))
    (divf (broadcast S256x256 (Scalar.ofBits .f32 0x3F800000#32)) (addf (broadcast S256x256 (Scalar.ofBits .f32 0x3F800000#32))
      (exp2 (mulf (mulf (matmul (φ₂ := .fp8e4m3) dot_S256x5120_S5120x256_S256x256_1_0_0_1_n_n none C w1 (constant S256x256 .f32 0x00000000#32)) (broadcast S256x256 sg))
        (broadcast S256x256 (Named.named κ "neg_log2e" 0xBFB8AA3B#32)))))))
    (mulf (matmul (φ₂ := .fp8e4m3) dot_S256x5120_S5120x256_S256x256_1_0_0_1_n_n none C w2 (constant S256x256 .f32 0x00000000#32)) (broadcast S256x256 sg))

/-- The codes of a piece of 256 columns. -/
def chidW (rs : FVec Ideal S1x128 .f32) (v : FVec Ideal S256x256 .f32) : FVec Ideal S256x256 .fp8e4m3 :=
  truncf .fp8e4m3 (minimumf (broadcast S256x256 (Scalar.ofBits .f32 0x43E00000#32)) (maximumf (broadcast S256x256 (Scalar.ofBits .f32 0xC3E00000#32))
    (mulf v (broadcastTo S256x256 (extractStridedSlice S1x1 ![0, 0] rs slices_S1x128_o0_0_S1x1) broadcasts_S1x1_S256x256)))) bitsLt_fp8e4m3_f32

/-- A piece of 128 columns of the gated hidden block, as the kernel computes it. -/
def hidN (C : FVec Ideal S256x5120 .fp8e4m3) (sg : Ideal .f32) (w1 w2 : Vec Ideal S5120x128 .fp8e4m3) : FVec Ideal S256x128 .f32 :=
  mulf (mulf (mulf (matmul (φ₂ := .fp8e4m3) dot_S256x5120_S5120x128_S256x128_1_0_0_1_n_n none C w1 (constant S256x128 .f32 0x00000000#32)) (broadcast S256x128 sg))
    (divf (broadcast S256x128 (Scalar.ofBits .f32 0x3F800000#32)) (addf (broadcast S256x128 (Scalar.ofBits .f32 0x3F800000#32))
      (exp2 (mulf (mulf (matmul (φ₂ := .fp8e4m3) dot_S256x5120_S5120x128_S256x128_1_0_0_1_n_n none C w1 (constant S256x128 .f32 0x00000000#32)) (broadcast S256x128 sg))
        (broadcast S256x128 (Named.named κ "neg_log2e" 0xBFB8AA3B#32)))))))
    (mulf (matmul (φ₂ := .fp8e4m3) dot_S256x5120_S5120x128_S256x128_1_0_0_1_n_n none C w2 (constant S256x128 .f32 0x00000000#32)) (broadcast S256x128 sg))

/-- The codes of a piece of 128 columns. -/
def chidN (rs : FVec Ideal S1x128 .f32) (v : FVec Ideal S256x128 .f32) : FVec Ideal S256x128 .fp8e4m3 :=
  truncf .fp8e4m3 (minimumf (broadcast S256x128 (Scalar.ofBits .f32 0x43E00000#32)) (maximumf (broadcast S256x128 (Scalar.ofBits .f32 0xC3E00000#32))
    (mulf v (broadcastTo S256x128 (extractStridedSlice S1x1 ![0, 0] rs slices_S1x128_o0_0_S1x1) broadcasts_S1x1_S256x128)))) bitsLt_fp8e4m3_f32

/-- Two slices of 128 lanes, their maximum. -/
def lanes2 (w : FVec Ideal S256x256 .f32) : FVec Ideal S256x128 .f32 :=
  maximumf (extractStridedSlice S256x128 ![0, 0] w slices_S256x256_o0_0_S256x128) (extractStridedSlice S256x128 ![0, 128] w slices_S256x256_o0_128_S256x128)

/-- The thirty-two slices of eight rows, their maximum from the left. -/
def rows32 (w : FVec Ideal S256x128 .f32) : FVec Ideal S8x128 .f32 :=
  (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (extractStridedSlice S8x128 ![0, 0] w slices_S256x128_o0_0_S8x128) (extractStridedSlice S8x128 ![8, 0] w slices_S256x128_o8_0_S8x128)) (extractStridedSlice S8x128 ![16, 0] w slices_S256x128_o16_0_S8x128)) (extractStridedSlice S8x128 ![24, 0] w slices_S256x128_o24_0_S8x128)) (extractStridedSlice S8x128 ![32, 0] w slices_S256x128_o32_0_S8x128)) (extractStridedSlice S8x128 ![40, 0] w slices_S256x128_o40_0_S8x128)) (extractStridedSlice S8x128 ![48, 0] w slices_S256x128_o48_0_S8x128)) (extractStridedSlice S8x128 ![56, 0] w slices_S256x128_o56_0_S8x128)) (extractStridedSlice S8x128 ![64, 0] w slices_S256x128_o64_0_S8x128)) (extractStridedSlice S8x128 ![72, 0] w slices_S256x128_o72_0_S8x128)) (extractStridedSlice S8x128 ![80, 0] w slices_S256x128_o80_0_S8x128)) (extractStridedSlice S8x128 ![88, 0] w slices_S256x128_o88_0_S8x128)) (extractStridedSlice S8x128 ![96, 0] w slices_S256x128_o96_0_S8x128)) (extractStridedSlice S8x128 ![104, 0] w slices_S256x128_o104_0_S8x128)) (extractStridedSlice S8x128 ![112, 0] w slices_S256x128_o112_0_S8x128)) (extractStridedSlice S8x128 ![120, 0] w slices_S256x128_o120_0_S8x128)) (extractStridedSlice S8x128 ![128, 0] w slices_S256x128_o128_0_S8x128)) (extractStridedSlice S8x128 ![136, 0] w slices_S256x128_o136_0_S8x128)) (extractStridedSlice S8x128 ![144, 0] w slices_S256x128_o144_0_S8x128)) (extractStridedSlice S8x128 ![152, 0] w slices_S256x128_o152_0_S8x128)) (extractStridedSlice S8x128 ![160, 0] w slices_S256x128_o160_0_S8x128)) (extractStridedSlice S8x128 ![168, 0] w slices_S256x128_o168_0_S8x128)) (extractStridedSlice S8x128 ![176, 0] w slices_S256x128_o176_0_S8x128)) (extractStridedSlice S8x128 ![184, 0] w slices_S256x128_o184_0_S8x128)) (extractStridedSlice S8x128 ![192, 0] w slices_S256x128_o192_0_S8x128)) (extractStridedSlice S8x128 ![200, 0] w slices_S256x128_o200_0_S8x128)) (extractStridedSlice S8x128 ![208, 0] w slices_S256x128_o208_0_S8x128)) (extractStridedSlice S8x128 ![216, 0] w slices_S256x128_o216_0_S8x128)) (extractStridedSlice S8x128 ![224, 0] w slices_S256x128_o224_0_S8x128)) (extractStridedSlice S8x128 ![232, 0] w slices_S256x128_o232_0_S8x128)) (extractStridedSlice S8x128 ![240, 0] w slices_S256x128_o240_0_S8x128)) (extractStridedSlice S8x128 ![248, 0] w slices_S256x128_o248_0_S8x128))

/-- The running maximum after a piece of 256 columns. -/
def mhidW (acc : FVec Ideal S8x128 .f32) (v : FVec Ideal S256x256 .f32) : FVec Ideal S8x128 .f32 := maximumf acc (rows32 (lanes2 (absf v)))

/-- The running maximum after a piece of 128 columns. -/
def mhidN (acc : FVec Ideal S8x128 .f32) (v : FVec Ideal S256x128 .f32) : FVec Ideal S8x128 .f32 := maximumf acc (rows32 (absf v))

/-- Two slices of lanes, by the upper bounds. -/
theorem lanes2_le (w : FVec Ideal S256x256 .f32) (i : Fin 256) (l : Fin 128) (c : EReal) :
    (lanes2 w (ix2 i l) : EReal) ≤ c ↔ ∀ b : Fin 2, (w (ix2 i ⟨128 * b.val + l.val, by omega⟩) : EReal) ≤ c := by
  unfold lanes2
  pointwise
  simp only [max_le_iff, Fin.forall_fin_succ, Fin.val_succ, Fin.val_zero, Nat.reduceMul, Nat.reduceAdd, Nat.mul_zero, zero_add, and_assoc, IsEmpty.forall_iff, and_true]

/-- The maximum of the thirty-two slices, by its upper bounds. -/
theorem rows32_le (w : FVec Ideal S256x128 .f32) (i : Fin 8) (l : Fin 128) (c : EReal) :
    (rows32 w (ix2 i l) : EReal) ≤ c ↔ ∀ b : Fin 32, (w (ix2 ⟨8 * b.val + i.val, by omega⟩ l) : EReal) ≤ c := by
  unfold rows32
  pointwise
  simp only [max_le_iff, Fin.forall_fin_succ, Fin.val_succ, Fin.val_zero, Nat.reduceMul, Nat.reduceAdd, Nat.mul_zero, zero_add, and_assoc, IsEmpty.forall_iff, and_true]

/-- The fold over the rows bounds exactly the entries. -/
theorem rows32_fold (w : FVec Ideal S256x128 .f32) (c : EReal) :
    (∀ i l, (rows32 w (ix2 i l) : EReal) ≤ c) ↔ ∀ (i : Fin 256) (l : Fin 128), (w (ix2 i l) : EReal) ≤ c := by
  constructor
  · intro h i l
    have := (rows32_le _ ⟨i.val % 8, by omega⟩ l c).1 (h _ _) ⟨i.val / 8, by omega⟩
    have hi : (⟨8 * (i.val / 8) + i.val % 8, by omega⟩ : Fin 256) = i := Fin.ext (by simp only []; omega)
    simp only [hi] at this
    exact this
  · intro h i l
    rw [rows32_le]
    exact fun b => h _ _

/-- The two folds together bound exactly the entries. -/
theorem lanes2_fold (w : FVec Ideal S256x256 .f32) (c : EReal) :
    (∀ i l, (lanes2 w (ix2 i l) : EReal) ≤ c) ↔ ∀ (i : Fin 256) (k : Fin 256), (w (ix2 i k) : EReal) ≤ c := by
  constructor
  · intro h i k
    have := (lanes2_le w i ⟨k.val % 128, by omega⟩ c).1 (h _ _) ⟨k.val / 128, by omega⟩
    have hk : (⟨128 * (k.val / 128) + k.val % 128, by omega⟩ : Fin 256) = k := Fin.ext (by simp only []; omega)
    simp only [hk] at this
    exact this
  · intro h i l
    rw [lanes2_le]
    exact fun b => h _ _

/-- A running maximum is bounded when both of its parts are. -/
theorem max_fold (a b : FVec Ideal S8x128 .f32) (c : EReal) :
    (∀ i l, (maximumf a b (ix2 i l) : EReal) ≤ c) ↔ (∀ i l, (a (ix2 i l) : EReal) ≤ c) ∧ ∀ i l, (b (ix2 i l) : EReal) ≤ c := by
  have e : ∀ i l, maximumf a b (ix2 i l) = max (a (ix2 i l)) (b (ix2 i l)) := fun i l => by pointwise
  simp only [e, max_le_iff, forall_and]

/-- The running maximum after a piece of 256 columns, by its upper bounds. -/
theorem mhidW_le (acc : FVec Ideal S8x128 .f32) (v : FVec Ideal S256x256 .f32) (c : EReal) :
    (∀ i l, (mhidW acc v (ix2 i l) : EReal) ≤ c)
      ↔ (∀ i l, (acc (ix2 i l) : EReal) ≤ c) ∧ ∀ (i : Fin 256) (k : Fin 256), max (v (ix2 i k)) (-(v (ix2 i k))) ≤ c := by
  unfold mhidW
  rw [max_fold, rows32_fold, lanes2_fold]
  rfl

/-- The running maximum after a piece of 128 columns, by its upper bounds. -/
theorem mhidN_le (acc : FVec Ideal S8x128 .f32) (v : FVec Ideal S256x128 .f32) (c : EReal) :
    (∀ i l, (mhidN acc v (ix2 i l) : EReal) ≤ c)
      ↔ (∀ i l, (acc (ix2 i l) : EReal) ≤ c) ∧ ∀ (i : Fin 256) (k : Fin 128), max (v (ix2 i k)) (-(v (ix2 i k))) ≤ c := by
  unfold mhidN
  rw [max_fold, rows32_fold]
  rfl

/-- A gate and its partner, at an index. -/
def gate (g u : EReal) : EReal :=
  g * Ideal.div (Ideal.ofBits .f32 0x3F800000#32) (Ideal.ofBits .f32 0x3F800000#32 + Ideal.exp2 (g * (Named.named κ "neg_log2e" 0xBFB8AA3B#32 : Ideal .f32))) * u

/-- The gated hidden block at an index: the gate's column and its partner 3200 columns on. -/
def hidVec (C : FVec Ideal S256x5120 .fp8e4m3) (sg : Ideal .f32) (W : Vec Ideal S5120x6400 .fp8e4m3) : FVec Ideal S256x3200 .f32 := fun y =>
  gate ((∑ k : Fin 5120, C (ix2 (y 0) k) * W (ix2 k ⟨(y 1).val, lt_of_lt_of_le (y 1).isLt (by decide)⟩)) * sg)
    ((∑ k : Fin 5120, C (ix2 (y 0) k) * W (ix2 k ⟨3200 + (y 1).val, Nat.add_lt_add_left (y 1).isLt 3200⟩)) * sg)

/-- The codes of the gated hidden block at an index. -/
def chidVec (rs : FVec Ideal S1x128 .f32) (v : FVec Ideal S256x3200 .f32) : FVec Ideal S256x3200 .fp8e4m3 := fun y =>
  min (Ideal.ofBits .f32 0x43E00000#32) (max (Ideal.ofBits .f32 0xC3E00000#32) (v y * rs (ix2 0 0)))

/-- A piece of 256 columns at an index. -/
theorem hidW_at (C : FVec Ideal S256x5120 .fp8e4m3) (sg : Ideal .f32) (w1 w2 : Vec Ideal S5120x256 .fp8e4m3) (i : Fin 256) (j : Fin 256) :
    hidW C sg w1 w2 (ix2 i j) = gate ((∑ k : Fin 5120, C (ix2 i k) * w1 (ix2 k j)) * sg) ((∑ k : Fin 5120, C (ix2 i k) * w2 (ix2 k j)) * sg) := by
  unfold hidW gate
  pointwise
  rfl

/-- A piece of 256 columns is those columns of the gated hidden block. -/
theorem hidW_apply (C : FVec Ideal S256x5120 .fp8e4m3) (sg : Ideal .f32) (W : Vec Ideal S5120x6400 .fp8e4m3) (q q' : ℕ) (h : q + 256 ≤ 3200) (e : q' = 3200 + q)
    (inb) (inb') (i : Fin 256) (j : Fin 256) :
    hidW C sg (View.ld W (Rect.unit (s := S5120x6400) ![0, q] ![5120, 256] inb)) (View.ld W (Rect.unit (s := S5120x6400) ![0, q'] ![5120, 256] inb')) (ix2 i j)
      = hidVec C sg W (ix2 i ⟨q + j.val, by omega⟩) := by
  subst e
  have e1 : ∀ k : Fin 5120, View.ld W (Rect.unit (s := S5120x6400) ![0, q] ![5120, 256] inb) (ix2 k j) = W (ix2 k ⟨q + j.val, by omega⟩) := fun k => by
    unfold View.ld
    blk_point []
    · show 0 + 1 * k.val = k.val
      omega
    · show q + 1 * j.val = q + j.val
      omega
  have e2 : ∀ k : Fin 5120, View.ld W (Rect.unit (s := S5120x6400) ![0, 3200 + q] ![5120, 256] inb') (ix2 k j) = W (ix2 k ⟨3200 + (q + j.val), by omega⟩) := fun k => by
    unfold View.ld
    blk_point []
    · show 0 + 1 * k.val = k.val
      omega
    · show 3200 + q + 1 * j.val = 3200 + (q + j.val)
      omega
  rw [hidW_at]
  exact congrArg₂ (fun a b : EReal => gate (a * sg) (b * sg)) (Finset.sum_congr rfl fun k _ => congrArg (C (ix2 i k) * ·) (e1 k))
    (Finset.sum_congr rfl fun k _ => congrArg (C (ix2 i k) * ·) (e2 k))

/-- The codes of a piece of 256 columns, at an index. -/
theorem chidW_apply (rs : FVec Ideal S1x128 .f32) (v : FVec Ideal S256x256 .f32) (i : Fin 256) (j : Fin 256) :
    chidW rs v (ix2 i j) = min (Ideal.ofBits .f32 0x43E00000#32) (max (Ideal.ofBits .f32 0xC3E00000#32) (v (ix2 i j) * rs (ix2 0 0))) := by
  unfold chidW
  pointwise

/-- The codes of a piece of 256 columns are those columns of the codes. -/
theorem chidW_cols (rs : FVec Ideal S1x128 .f32) (C : FVec Ideal S256x5120 .fp8e4m3) (sg : Ideal .f32) (W : Vec Ideal S5120x6400 .fp8e4m3) (q q' : ℕ) (h : q + 256 ≤ 3200) (e : q' = 3200 + q)
    (inb) (inb') (x : S256x256.Idx) :
    chidW rs (hidW C sg (View.ld W (Rect.unit (s := S5120x6400) ![0, q] ![5120, 256] inb)) (View.ld W (Rect.unit (s := S5120x6400) ![0, q'] ![5120, 256] inb'))) x
      = chidVec rs (hidVec C sg W) (ix2 (x 0) ⟨q + (x 1).val, by have h' : (x 1).val < 256 := (x 1).isLt; omega⟩) := by
  obtain ⟨i, j, rfl⟩ : ∃ (i : Fin 256) (j : Fin 256), x = ix2 i j := ⟨x 0, x 1, eq_ix2 x⟩
  rw [chidW_apply, hidW_apply C sg W q q' h e]
  rfl

/-- A piece of 128 columns at an index. -/
theorem hidN_at (C : FVec Ideal S256x5120 .fp8e4m3) (sg : Ideal .f32) (w1 w2 : Vec Ideal S5120x128 .fp8e4m3) (i : Fin 256) (j : Fin 128) :
    hidN C sg w1 w2 (ix2 i j) = gate ((∑ k : Fin 5120, C (ix2 i k) * w1 (ix2 k j)) * sg) ((∑ k : Fin 5120, C (ix2 i k) * w2 (ix2 k j)) * sg) := by
  unfold hidN gate
  pointwise
  rfl

/-- A piece of 128 columns is those columns of the gated hidden block. -/
theorem hidN_apply (C : FVec Ideal S256x5120 .fp8e4m3) (sg : Ideal .f32) (W : Vec Ideal S5120x6400 .fp8e4m3) (q q' : ℕ) (h : q + 128 ≤ 3200) (e : q' = 3200 + q)
    (inb) (inb') (i : Fin 256) (j : Fin 128) :
    hidN C sg (View.ld W (Rect.unit (s := S5120x6400) ![0, q] ![5120, 128] inb)) (View.ld W (Rect.unit (s := S5120x6400) ![0, q'] ![5120, 128] inb')) (ix2 i j)
      = hidVec C sg W (ix2 i ⟨q + j.val, by omega⟩) := by
  subst e
  have e1 : ∀ k : Fin 5120, View.ld W (Rect.unit (s := S5120x6400) ![0, q] ![5120, 128] inb) (ix2 k j) = W (ix2 k ⟨q + j.val, by omega⟩) := fun k => by
    unfold View.ld
    blk_point []
    · show 0 + 1 * k.val = k.val
      omega
    · show q + 1 * j.val = q + j.val
      omega
  have e2 : ∀ k : Fin 5120, View.ld W (Rect.unit (s := S5120x6400) ![0, 3200 + q] ![5120, 128] inb') (ix2 k j) = W (ix2 k ⟨3200 + (q + j.val), by omega⟩) := fun k => by
    unfold View.ld
    blk_point []
    · show 0 + 1 * k.val = k.val
      omega
    · show 3200 + q + 1 * j.val = 3200 + (q + j.val)
      omega
  rw [hidN_at]
  exact congrArg₂ (fun a b : EReal => gate (a * sg) (b * sg)) (Finset.sum_congr rfl fun k _ => congrArg (C (ix2 i k) * ·) (e1 k))
    (Finset.sum_congr rfl fun k _ => congrArg (C (ix2 i k) * ·) (e2 k))

/-- The codes of a piece of 128 columns, at an index. -/
theorem chidN_apply (rs : FVec Ideal S1x128 .f32) (v : FVec Ideal S256x128 .f32) (i : Fin 256) (j : Fin 128) :
    chidN rs v (ix2 i j) = min (Ideal.ofBits .f32 0x43E00000#32) (max (Ideal.ofBits .f32 0xC3E00000#32) (v (ix2 i j) * rs (ix2 0 0))) := by
  unfold chidN
  pointwise

/-- The codes of a piece of 128 columns are those columns of the codes. -/
theorem chidN_cols (rs : FVec Ideal S1x128 .f32) (C : FVec Ideal S256x5120 .fp8e4m3) (sg : Ideal .f32) (W : Vec Ideal S5120x6400 .fp8e4m3) (q q' : ℕ) (h : q + 128 ≤ 3200) (e : q' = 3200 + q)
    (inb) (inb') (x : S256x128.Idx) :
    chidN rs (hidN C sg (View.ld W (Rect.unit (s := S5120x6400) ![0, q] ![5120, 128] inb)) (View.ld W (Rect.unit (s := S5120x6400) ![0, q'] ![5120, 128] inb'))) x
      = chidVec rs (hidVec C sg W) (ix2 (x 0) ⟨q + (x 1).val, by have h' : (x 1).val < 128 := (x 1).isLt; omega⟩) := by
  obtain ⟨i, j, rfl⟩ : ∃ (i : Fin 256) (j : Fin 128), x = ix2 i j := ⟨x 0, x 1, eq_ix2 x⟩
  rw [chidN_apply, hidN_apply C sg W q q' h e]
  rfl

/-- Thirteen pieces of columns, each the codes of its columns, are the codes of the block. -/
theorem canonHid (rs : FVec Ideal S1x128 .f32) (C : FVec Ideal S256x5120 .fp8e4m3) (sg : Ideal .f32) (W : Vec Ideal S5120x6400 .fp8e4m3) (y : S256x3200.Idx) :
    View.canon [(⟨Rect.unit ![0, 3072] ![256, 128] inb_S256x3200_S256x128_0_3072, chidN rs (hidN C sg (View.ld W (Rect.unit ![0, 3072] ![5120, 128] inb_S5120x6400_S5120x128_0_3072)) (View.ld W (Rect.unit ![0, 6272] ![5120, 128] inb_S5120x6400_S5120x128_0_6272)))⟩ : View.Piece (Elt Ideal) S256x3200 .fp8e4m3),
      (⟨Rect.unit ![0, 2816] ![256, 256] inb_S256x3200_S256x256_0_2816, chidW rs (hidW C sg (View.ld W (Rect.unit ![0, 2816] ![5120, 256] inb_S5120x6400_S5120x256_0_2816)) (View.ld W (Rect.unit ![0, 6016] ![5120, 256] inb_S5120x6400_S5120x256_0_6016)))⟩ : View.Piece (Elt Ideal) S256x3200 .fp8e4m3),
      (⟨Rect.unit ![0, 2560] ![256, 256] inb_S256x3200_S256x256_0_2560, chidW rs (hidW C sg (View.ld W (Rect.unit ![0, 2560] ![5120, 256] inb_S5120x6400_S5120x256_0_2560)) (View.ld W (Rect.unit ![0, 5760] ![5120, 256] inb_S5120x6400_S5120x256_0_5760)))⟩ : View.Piece (Elt Ideal) S256x3200 .fp8e4m3),
      (⟨Rect.unit ![0, 2304] ![256, 256] inb_S256x3200_S256x256_0_2304, chidW rs (hidW C sg (View.ld W (Rect.unit ![0, 2304] ![5120, 256] inb_S5120x6400_S5120x256_0_2304)) (View.ld W (Rect.unit ![0, 5504] ![5120, 256] inb_S5120x6400_S5120x256_0_5504)))⟩ : View.Piece (Elt Ideal) S256x3200 .fp8e4m3),
      (⟨Rect.unit ![0, 2048] ![256, 256] inb_S256x3200_S256x256_0_2048, chidW rs (hidW C sg (View.ld W (Rect.unit ![0, 2048] ![5120, 256] inb_S5120x6400_S5120x256_0_2048)) (View.ld W (Rect.unit ![0, 5248] ![5120, 256] inb_S5120x6400_S5120x256_0_5248)))⟩ : View.Piece (Elt Ideal) S256x3200 .fp8e4m3),
      (⟨Rect.unit ![0, 1792] ![256, 256] inb_S256x3200_S256x256_0_1792, chidW rs (hidW C sg (View.ld W (Rect.unit ![0, 1792] ![5120, 256] inb_S5120x6400_S5120x256_0_1792)) (View.ld W (Rect.unit ![0, 4992] ![5120, 256] inb_S5120x6400_S5120x256_0_4992)))⟩ : View.Piece (Elt Ideal) S256x3200 .fp8e4m3),
      (⟨Rect.unit ![0, 1536] ![256, 256] inb_S256x3200_S256x256_0_1536, chidW rs (hidW C sg (View.ld W (Rect.unit ![0, 1536] ![5120, 256] inb_S5120x6400_S5120x256_0_1536)) (View.ld W (Rect.unit ![0, 4736] ![5120, 256] inb_S5120x6400_S5120x256_0_4736)))⟩ : View.Piece (Elt Ideal) S256x3200 .fp8e4m3),
      (⟨Rect.unit ![0, 1280] ![256, 256] inb_S256x3200_S256x256_0_1280, chidW rs (hidW C sg (View.ld W (Rect.unit ![0, 1280] ![5120, 256] inb_S5120x6400_S5120x256_0_1280)) (View.ld W (Rect.unit ![0, 4480] ![5120, 256] inb_S5120x6400_S5120x256_0_4480)))⟩ : View.Piece (Elt Ideal) S256x3200 .fp8e4m3),
      (⟨Rect.unit ![0, 1024] ![256, 256] inb_S256x3200_S256x256_0_1024, chidW rs (hidW C sg (View.ld W (Rect.unit ![0, 1024] ![5120, 256] inb_S5120x6400_S5120x256_0_1024)) (View.ld W (Rect.unit ![0, 4224] ![5120, 256] inb_S5120x6400_S5120x256_0_4224)))⟩ : View.Piece (Elt Ideal) S256x3200 .fp8e4m3),
      (⟨Rect.unit ![0, 768] ![256, 256] inb_S256x3200_S256x256_0_768, chidW rs (hidW C sg (View.ld W (Rect.unit ![0, 768] ![5120, 256] inb_S5120x6400_S5120x256_0_768)) (View.ld W (Rect.unit ![0, 3968] ![5120, 256] inb_S5120x6400_S5120x256_0_3968)))⟩ : View.Piece (Elt Ideal) S256x3200 .fp8e4m3),
      (⟨Rect.unit ![0, 512] ![256, 256] inb_S256x3200_S256x256_0_512, chidW rs (hidW C sg (View.ld W (Rect.unit ![0, 512] ![5120, 256] inb_S5120x6400_S5120x256_0_512)) (View.ld W (Rect.unit ![0, 3712] ![5120, 256] inb_S5120x6400_S5120x256_0_3712)))⟩ : View.Piece (Elt Ideal) S256x3200 .fp8e4m3),
      (⟨Rect.unit ![0, 256] ![256, 256] inb_S256x3200_S256x256_0_256, chidW rs (hidW C sg (View.ld W (Rect.unit ![0, 256] ![5120, 256] inb_S5120x6400_S5120x256_0_256)) (View.ld W (Rect.unit ![0, 3456] ![5120, 256] inb_S5120x6400_S5120x256_0_3456)))⟩ : View.Piece (Elt Ideal) S256x3200 .fp8e4m3),
      (⟨Rect.unit ![0, 0] ![256, 256] inb_S256x3200_S256x256_0_0, chidW rs (hidW C sg (View.ld W (Rect.unit ![0, 0] ![5120, 256] inb_S5120x6400_S5120x256_0_0)) (View.ld W (Rect.unit ![0, 3200] ![5120, 256] inb_S5120x6400_S5120x256_0_3200)))⟩ : View.Piece (Elt Ideal) S256x3200 .fp8e4m3)] y = chidVec rs (hidVec C sg W) y := by
  canon_tiles x h using (View.cover_of_tiledBy (s := S256x3200) _ ![256, 128] (by sl_kernel_rfl) y)
  all_goals
    first
      | refine (chidW_cols rs C sg W _ _ (by omega) rfl _ _ x).trans (congrArg (chidVec rs (hidVec C sg W)) ?_)
      | refine (chidN_cols rs C sg W _ _ (by omega) rfl _ _ x).trans (congrArg (chidVec rs (hidVec C sg W)) ?_)
    blk_point []

/-- The running maximum of the gated hidden block after the thirteen pieces. -/
def mhidVec (acc : FVec Ideal S8x128 .f32) (C : FVec Ideal S256x5120 .fp8e4m3) (sg : Ideal .f32) (W : Vec Ideal S5120x6400 .fp8e4m3) : FVec Ideal S8x128 .f32 :=
  mhidN (mhidW (mhidW (mhidW (mhidW (mhidW (mhidW (mhidW (mhidW (mhidW (mhidW (mhidW (mhidW acc
    (hidW C sg (View.ld W (Rect.unit ![0, 0] ![5120, 256] inb_S5120x6400_S5120x256_0_0)) (View.ld W (Rect.unit ![0, 3200] ![5120, 256] inb_S5120x6400_S5120x256_0_3200))))
    (hidW C sg (View.ld W (Rect.unit ![0, 256] ![5120, 256] inb_S5120x6400_S5120x256_0_256)) (View.ld W (Rect.unit ![0, 3456] ![5120, 256] inb_S5120x6400_S5120x256_0_3456))))
    (hidW C sg (View.ld W (Rect.unit ![0, 512] ![5120, 256] inb_S5120x6400_S5120x256_0_512)) (View.ld W (Rect.unit ![0, 3712] ![5120, 256] inb_S5120x6400_S5120x256_0_3712))))
    (hidW C sg (View.ld W (Rect.unit ![0, 768] ![5120, 256] inb_S5120x6400_S5120x256_0_768)) (View.ld W (Rect.unit ![0, 3968] ![5120, 256] inb_S5120x6400_S5120x256_0_3968))))
    (hidW C sg (View.ld W (Rect.unit ![0, 1024] ![5120, 256] inb_S5120x6400_S5120x256_0_1024)) (View.ld W (Rect.unit ![0, 4224] ![5120, 256] inb_S5120x6400_S5120x256_0_4224))))
    (hidW C sg (View.ld W (Rect.unit ![0, 1280] ![5120, 256] inb_S5120x6400_S5120x256_0_1280)) (View.ld W (Rect.unit ![0, 4480] ![5120, 256] inb_S5120x6400_S5120x256_0_4480))))
    (hidW C sg (View.ld W (Rect.unit ![0, 1536] ![5120, 256] inb_S5120x6400_S5120x256_0_1536)) (View.ld W (Rect.unit ![0, 4736] ![5120, 256] inb_S5120x6400_S5120x256_0_4736))))
    (hidW C sg (View.ld W (Rect.unit ![0, 1792] ![5120, 256] inb_S5120x6400_S5120x256_0_1792)) (View.ld W (Rect.unit ![0, 4992] ![5120, 256] inb_S5120x6400_S5120x256_0_4992))))
    (hidW C sg (View.ld W (Rect.unit ![0, 2048] ![5120, 256] inb_S5120x6400_S5120x256_0_2048)) (View.ld W (Rect.unit ![0, 5248] ![5120, 256] inb_S5120x6400_S5120x256_0_5248))))
    (hidW C sg (View.ld W (Rect.unit ![0, 2304] ![5120, 256] inb_S5120x6400_S5120x256_0_2304)) (View.ld W (Rect.unit ![0, 5504] ![5120, 256] inb_S5120x6400_S5120x256_0_5504))))
    (hidW C sg (View.ld W (Rect.unit ![0, 2560] ![5120, 256] inb_S5120x6400_S5120x256_0_2560)) (View.ld W (Rect.unit ![0, 5760] ![5120, 256] inb_S5120x6400_S5120x256_0_5760))))
    (hidW C sg (View.ld W (Rect.unit ![0, 2816] ![5120, 256] inb_S5120x6400_S5120x256_0_2816)) (View.ld W (Rect.unit ![0, 6016] ![5120, 256] inb_S5120x6400_S5120x256_0_6016))))
    (hidN C sg (View.ld W (Rect.unit ![0, 3072] ![5120, 128] inb_S5120x6400_S5120x128_0_3072)) (View.ld W (Rect.unit ![0, 6272] ![5120, 128] inb_S5120x6400_S5120x128_0_6272)))

/-- A bound over a piece of columns, read over all the columns. -/
theorem cols_split (c : EReal) (f : Fin 256 → Fin 3200 → EReal) :
    (∀ i k, f i k ≤ c) ↔ (∀ (b : Fin 12) (i : Fin 256) (k : Fin 256), f i ⟨256 * b.val + k.val, by omega⟩ ≤ c) ∧ ∀ (i : Fin 256) (k : Fin 128), f i ⟨3072 + k.val, by omega⟩ ≤ c := by
  constructor
  · exact fun h => ⟨fun _ _ _ => h _ _, fun _ _ => h _ _⟩
  · rintro ⟨h1, h2⟩ i k
    by_cases hk : k.val < 3072
    · have := h1 ⟨k.val / 256, by omega⟩ i ⟨k.val % 256, by omega⟩
      have e : (⟨256 * (k.val / 256) + k.val % 256, by omega⟩ : Fin 3200) = k := Fin.ext (by simp only []; omega)
      simpa only [e] using this
    · have := h2 i ⟨k.val - 3072, by omega⟩
      have e : (⟨3072 + (k.val - 3072), by omega⟩ : Fin 3200) = k := Fin.ext (by simp only []; omega)
      simpa only [e] using this

/-- The upper bounds of the running maximum. -/
theorem mhidVec_le (acc : FVec Ideal S8x128 .f32) (C : FVec Ideal S256x5120 .fp8e4m3) (sg : Ideal .f32) (W : Vec Ideal S5120x6400 .fp8e4m3) (c : EReal) :
    (∀ i l, (mhidVec acc C sg W (ix2 i l) : EReal) ≤ c)
      ↔ (∀ i l, (acc (ix2 i l) : EReal) ≤ c) ∧ ∀ (i : Fin 256) (k : Fin 3200), max (hidVec C sg W (ix2 i k)) (-(hidVec C sg W (ix2 i k))) ≤ c := by
  unfold mhidVec
  rw [cols_split c (fun i k => max (hidVec C sg W (ix2 i k)) (-(hidVec C sg W (ix2 i k))))]
  simp only [mhidN_le, mhidW_le, and_assoc]
  simp (discharger := omega) only [hidW_apply C sg W 0 3200, hidW_apply C sg W 256 3456, hidW_apply C sg W 512 3712, hidW_apply C sg W 768 3968, hidW_apply C sg W 1024 4224, hidW_apply C sg W 1280 4480, hidW_apply C sg W 1536 4736, hidW_apply C sg W 1792 4992, hidW_apply C sg W 2048 5248, hidW_apply C sg W 2304 5504, hidW_apply C sg W 2560 5760, hidW_apply C sg W 2816 6016, hidN_apply C sg W 3072 6272]
  simp only [Fin.forall_fin_succ (n := 11), Fin.forall_fin_succ (n := 10), Fin.forall_fin_succ (n := 9), Fin.forall_fin_succ (n := 8), Fin.forall_fin_succ (n := 7), Fin.forall_fin_succ (n := 6), Fin.forall_fin_succ (n := 5), Fin.forall_fin_succ (n := 4), Fin.forall_fin_succ (n := 3), Fin.forall_fin_succ (n := 2), Fin.forall_fin_succ (n := 1), Fin.forall_fin_succ (n := 0), Fin.val_succ, Fin.val_zero, Nat.reduceMul, Nat.reduceAdd, Nat.mul_zero, and_assoc, IsEmpty.forall_iff, true_and]

end Cert.GuIdeal.Hand
-- ==== Proof.GuKer.lean ====
/- What a grid point leaves in its blocks and in the two running maxima, in its three cases. -/
module

public import proofs.«01_k».proof.Proof.GuHid
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuIdeal.Hand

open Cert.GuIdeal Cert.GuIdeal.Gen

set_option maxHeartbeats 800000

/-- The residual of the block. -/
def hB (x0 x1 : Vec Ideal S1 .f32) (x5 : Vec Ideal S256x5120 .bf16) (x6 : Vec Ideal S256x1024 .fp8e4m3) (x8 : Vec Ideal S1024x5120 .fp8e4m3) :
    Vec Ideal S256x5120 .f32 := hVec x5 x6 x8 (x0 (ix1 0)) (x1 (ix1 0))

/-- The norm's weights over the scale. -/
def gB (x2 : Vec Ideal S1 .f32) (x7 : Vec Ideal S1x5120 .f32) : FVec Ideal S1x5120 .f32 := k0_pay29 x7 (x2 (ix1 0))

/-- The gated hidden block, from the codes. -/
def hidB (x2 x3 : Vec Ideal S1 .f32) (C : FVec Ideal S256x5120 .fp8e4m3) (x9 : Vec Ideal S5120x6400 .fp8e4m3) : FVec Ideal S256x3200 .f32 :=
  hidVec C (k0_pay512 (x2 (ix1 0)) (x3 (ix1 0))) x9

/-- A scalar read out of a buffer of one word. -/
theorem ldS (x : Vec Ideal S1 .f32) (h) : View.ld x (Rect.unit ![0] ![1] inb_S1_S1_0) (Shape.Idx.first h) = x (ix1 0) :=
  congrArg x (funext fun a => Fin.ext (by fin_cases a; rfl))

/-- The whole block of codes read back is the block of codes. -/
theorem ldC (v : FVec Ideal S256x5120 .fp8e4m3) : k0_pay511 (fun j => v ((Rect.unit (s := S256x5120) ![0, 0] ![256, 5120] inb_S256x5120_S256x5120_0_0).toLoadRect.idx j)) = v := by
  unfold k0_pay511
  rw [shapeCast_self]
  funext j
  refine congrArg v (funext fun a => Fin.ext ?_)
  fin_cases a
  · show 0 + 1 * (j 0).val = (j 0).val
    omega
  · show 0 + 1 * (j 1).val = (j 1).val
    omega

/-- The residual left by a point (case A). -/
theorem out0_A_10_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : cond0_0 i) (hc1 : ¬cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (y : S256x5120.Idx) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 y = (hB x0 x1 x5 x6 x8) y := by
  frame_out
  simp only [View.readCov_eq_canon', canonH]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  rfl

/-- The codes of the normalised block left by a point (case A). -/
theorem out0_A_11_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : cond0_0 i) (hc1 : ¬cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (y : S256x5120.Idx) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 y = cVec (gB x2 x7) (hB x0 x1 x5 x6 x8) y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  exact canonC_rows gs H y

/-- The codes of the hidden block left by a point (case A). -/
theorem out0_A_12_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : cond0_0 i) (hc1 : ¬cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (y : S256x3200.Idx) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 y = chidVec (k0_pay513 (x4 (ix1 0))) (hidB x2 x3 (cVec (gB x2 x7) (hB x0 x1 x5 x6 x8)) x9) y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  generalize hC : View.canon (Val := Elt Ideal) (s := S256x5120) (e := .fp8e4m3) [_, _, _, _, _, _, _, _] = C
  obtain rfl : cVec gs H = C := (canonC gs H).symm.trans hC
  generalize e3 : View.ld x3 (Rect.unit ![0] ![1] inb_S1_S1_0) _ = q3
  obtain rfl : x3 (ix1 0) = q3 := (ldS x3 _).symm.trans e3
  generalize e4 : View.ld x4 (Rect.unit ![0] ![1] inb_S1_S1_0) _ = q4
  obtain rfl : x4 (ix1 0) = q4 := (ldS x4 _).symm.trans e4
  exact (canonHid (k0_pay513 (x4 (ix1 0))) (k0_pay511 (fun j => cVec gs H ((Rect.unit (s := S256x5120) ![0, 0] ![256, 5120] inb_S256x5120_S256x5120_0_0).toLoadRect.idx j))) (k0_pay512 (x2 (ix1 0)) (x3 (ix1 0))) x9 y).trans (by rw [ldC]; rfl)

/-- The first running maximum after a point (case A). -/
theorem sout0_A_0_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : cond0_0 i) (hc1 : ¬cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (y : S8x128.Idx) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 y = mVec (gB x2 x7) k0_pay3 (hB x0 x1 x5 x6 x8) y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  exact congrFun (shapeCast_self (mVec gs k0_pay3 H) shapeCasts_S8x128_S8x128) y

/-- The second running maximum after a point (case A). -/
theorem sout0_A_1_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : cond0_0 i) (hc1 : ¬cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (y : S8x128.Idx) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 y = mhidVec k0_pay4 (cVec (gB x2 x7) (hB x0 x1 x5 x6 x8)) (k0_pay512 (x2 (ix1 0)) (x3 (ix1 0))) x9 y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  generalize hC : View.canon (Val := Elt Ideal) (s := S256x5120) (e := .fp8e4m3) [_, _, _, _, _, _, _, _] = C
  obtain rfl : cVec gs H = C := (canonC gs H).symm.trans hC
  generalize e3 : View.ld x3 (Rect.unit ![0] ![1] inb_S1_S1_0) _ = q3
  obtain rfl : x3 (ix1 0) = q3 := (ldS x3 _).symm.trans e3
  exact (congrFun (shapeCast_self (mhidVec k0_pay4 (k0_pay511 (fun j => cVec gs H ((Rect.unit (s := S256x5120) ![0, 0] ![256, 5120] inb_S256x5120_S256x5120_0_0).toLoadRect.idx j))) (k0_pay512 (x2 (ix1 0)) (x3 (ix1 0))) x9) shapeCasts_S8x128_S8x128) y).trans (by rw [ldC])

/-- The residual left by a point (case B). -/
theorem out0_B_10_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : ¬cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S256x5120.Idx) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = (hB x0 x1 x5 x6 x8) y := by
  frame_out
  simp only [View.readCov_eq_canon', canonH]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  rfl

/-- The codes of the normalised block left by a point (case B). -/
theorem out0_B_11_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : ¬cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S256x5120.Idx) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = cVec (gB x2 x7) (hB x0 x1 x5 x6 x8) y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  exact canonC_rows gs H y

/-- The codes of the hidden block left by a point (case B). -/
theorem out0_B_12_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : ¬cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S256x3200.Idx) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = chidVec (k0_pay513 (x4 (ix1 0))) (hidB x2 x3 (cVec (gB x2 x7) (hB x0 x1 x5 x6 x8)) x9) y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  generalize hC : View.canon (Val := Elt Ideal) (s := S256x5120) (e := .fp8e4m3) [_, _, _, _, _, _, _, _] = C
  obtain rfl : cVec gs H = C := (canonC gs H).symm.trans hC
  generalize e3 : View.ld x3 (Rect.unit ![0] ![1] inb_S1_S1_0) _ = q3
  obtain rfl : x3 (ix1 0) = q3 := (ldS x3 _).symm.trans e3
  generalize e4 : View.ld x4 (Rect.unit ![0] ![1] inb_S1_S1_0) _ = q4
  obtain rfl : x4 (ix1 0) = q4 := (ldS x4 _).symm.trans e4
  exact (canonHid (k0_pay513 (x4 (ix1 0))) (k0_pay511 (fun j => cVec gs H ((Rect.unit (s := S256x5120) ![0, 0] ![256, 5120] inb_S256x5120_S256x5120_0_0).toLoadRect.idx j))) (k0_pay512 (x2 (ix1 0)) (x3 (ix1 0))) x9 y).trans (by rw [ldC]; rfl)

/-- The first running maximum after a point (case B). -/
theorem sout0_B_0_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : ¬cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S8x128.Idx) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = mVec (gB x2 x7) xs0 (hB x0 x1 x5 x6 x8) y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  exact congrFun (shapeCast_self (mVec gs xs0 H) shapeCasts_S8x128_S8x128) y

/-- The second running maximum after a point (case B). -/
theorem sout0_B_1_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : ¬cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S8x128.Idx) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = mhidVec xs1 (cVec (gB x2 x7) (hB x0 x1 x5 x6 x8)) (k0_pay512 (x2 (ix1 0)) (x3 (ix1 0))) x9 y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  generalize hC : View.canon (Val := Elt Ideal) (s := S256x5120) (e := .fp8e4m3) [_, _, _, _, _, _, _, _] = C
  obtain rfl : cVec gs H = C := (canonC gs H).symm.trans hC
  generalize e3 : View.ld x3 (Rect.unit ![0] ![1] inb_S1_S1_0) _ = q3
  obtain rfl : x3 (ix1 0) = q3 := (ldS x3 _).symm.trans e3
  exact (congrFun (shapeCast_self (mhidVec xs1 (k0_pay511 (fun j => cVec gs H ((Rect.unit (s := S256x5120) ![0, 0] ![256, 5120] inb_S256x5120_S256x5120_0_0).toLoadRect.idx j))) (k0_pay512 (x2 (ix1 0)) (x3 (ix1 0))) x9) shapeCasts_S8x128_S8x128) y).trans (by rw [ldC])

/-- The residual left by a point (case C). -/
theorem out0_C_10_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S256x5120.Idx) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = (hB x0 x1 x5 x6 x8) y := by
  frame_out
  simp only [View.readCov_eq_canon', canonH]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  rfl

/-- The codes of the normalised block left by a point (case C). -/
theorem out0_C_11_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S256x5120.Idx) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = cVec (gB x2 x7) (hB x0 x1 x5 x6 x8) y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  exact canonC_rows gs H y

/-- The codes of the hidden block left by a point (case C). -/
theorem out0_C_12_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S256x3200.Idx) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = chidVec (k0_pay513 (x4 (ix1 0))) (hidB x2 x3 (cVec (gB x2 x7) (hB x0 x1 x5 x6 x8)) x9) y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  generalize hC : View.canon (Val := Elt Ideal) (s := S256x5120) (e := .fp8e4m3) [_, _, _, _, _, _, _, _] = C
  obtain rfl : cVec gs H = C := (canonC gs H).symm.trans hC
  generalize e3 : View.ld x3 (Rect.unit ![0] ![1] inb_S1_S1_0) _ = q3
  obtain rfl : x3 (ix1 0) = q3 := (ldS x3 _).symm.trans e3
  generalize e4 : View.ld x4 (Rect.unit ![0] ![1] inb_S1_S1_0) _ = q4
  obtain rfl : x4 (ix1 0) = q4 := (ldS x4 _).symm.trans e4
  exact (canonHid (k0_pay513 (x4 (ix1 0))) (k0_pay511 (fun j => cVec gs H ((Rect.unit (s := S256x5120) ![0, 0] ![256, 5120] inb_S256x5120_S256x5120_0_0).toLoadRect.idx j))) (k0_pay512 (x2 (ix1 0)) (x3 (ix1 0))) x9 y).trans (by rw [ldC]; rfl)

/-- The first running maximum after a point (case C). -/
theorem sout0_C_0_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S8x128.Idx) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = mVec (gB x2 x7) xs0 (hB x0 x1 x5 x6 x8) y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  exact congrFun (shapeCast_self (mVec gs xs0 H) shapeCasts_S8x128_S8x128) y

/-- The second running maximum after a point (case C). -/
theorem sout0_C_1_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S8x128.Idx) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = mhidVec xs1 (cVec (gB x2 x7) (hB x0 x1 x5 x6 x8)) (k0_pay512 (x2 (ix1 0)) (x3 (ix1 0))) x9 y := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  generalize hC : View.canon (Val := Elt Ideal) (s := S256x5120) (e := .fp8e4m3) [_, _, _, _, _, _, _, _] = C
  obtain rfl : cVec gs H = C := (canonC gs H).symm.trans hC
  generalize e3 : View.ld x3 (Rect.unit ![0] ![1] inb_S1_S1_0) _ = q3
  obtain rfl : x3 (ix1 0) = q3 := (ldS x3 _).symm.trans e3
  exact (congrFun (shapeCast_self (mhidVec xs1 (k0_pay511 (fun j => cVec gs H ((Rect.unit (s := S256x5120) ![0, 0] ![256, 5120] inb_S256x5120_S256x5120_0_0).toLoadRect.idx j))) (k0_pay512 (x2 (ix1 0)) (x3 (ix1 0))) x9) shapeCasts_S8x128_S8x128) y).trans (by rw [ldC])

/-- The first maximum returned by the last point (case C). -/
theorem out0_C_13_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S1.Idx) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = k0_pay1 (mVec (gB x2 x7) xs0 (hB x0 x1 x5 x6 x8)) (x2 (ix1 0)) := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  exact congrArg (fun v => k0_pay1 v (x2 (ix1 0))) (shapeCast_self (mVec gs xs0 H) shapeCasts_S8x128_S8x128)

/-- The second maximum returned by the last point (case C). -/
theorem out0_C_14_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S1 .f32) (harg5 : arg5.IsWhole) (arg6 : Memref sig .tc .vmem S256x5120 .bf16) (harg6 : arg6.IsWhole) (arg7 : Memref sig .tc .vmem S256x1024 .fp8e4m3) (harg7 : arg7.IsWhole) (arg8 : Memref sig .tc .vmem S1x5120 .f32) (harg8 : arg8.IsWhole) (arg9 : Memref sig .tc .vmem S1024x5120 .fp8e4m3) (harg9 : arg9.IsWhole) (arg10 : Memref sig .tc .vmem S5120x6400 .fp8e4m3) (harg10 : arg10.IsWhole) (arg11 : Memref sig .tc .vmem S256x5120 .f32) (harg11 : arg11.IsWhole) (arg12 : Memref sig .tc .vmem S256x5120 .fp8e4m3) (harg12 : arg12.IsWhole) (arg13 : Memref sig .tc .vmem S256x3200 .fp8e4m3) (harg13 : arg13.IsWhole) (arg14 : Memref sig .tc .smem S1 .f32) (harg14 : arg14.IsWhole) (arg15 : Memref sig .tc .smem S1 .f32) (harg15 : arg15.IsWhole) (arg16 : Memref sig .tc .vmem S8x128 .f32) (harg16 : arg16.IsWhole) (arg17 : Memref sig .tc .vmem S8x128 .f32) (harg17 : arg17.IsWhole) (hc0 : ¬cond0_0 i) (hc1 : cond0_1 i)
    (x0 : Vec Ideal S1 .f32) (x1 : Vec Ideal S1 .f32) (x2 : Vec Ideal S1 .f32) (x3 : Vec Ideal S1 .f32) (x4 : Vec Ideal S1 .f32) (x5 : Vec Ideal S256x5120 .bf16) (x6 : Vec Ideal S256x1024 .fp8e4m3) (x7 : Vec Ideal S1x5120 .f32) (x8 : Vec Ideal S1024x5120 .fp8e4m3) (x9 : Vec Ideal S5120x6400 .fp8e4m3) (xs0 : Vec Ideal S8x128 .f32) (xs1 : Vec Ideal S8x128 .f32) (y : S1.Idx) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 y = k0_pay2 (F := Ideal) (mhidVec xs1 (cVec (gB x2 x7) (hB x0 x1 x5 x6 x8)) (k0_pay512 (x2 (ix1 0)) (x3 (ix1 0))) x9) := by
  frame_out
  simp only [View.readCov_eq_canon', canonH, canonC_pays]
  generalize e0 : View.ld x0 (Rect.unit ![0] ![1] inb_S1_S1_0) _ = q0
  obtain rfl : x0 (ix1 0) = q0 := (ldS x0 _).symm.trans e0
  generalize e1 : View.ld x1 (Rect.unit ![0] ![1] inb_S1_S1_0) _ = q1
  obtain rfl : x1 (ix1 0) = q1 := (ldS x1 _).symm.trans e1
  generalize e2 : View.ld x2 (Rect.unit ![0] ![1] inb_S1_S1_0) _ = q2
  obtain rfl : x2 (ix1 0) = q2 := (ldS x2 _).symm.trans e2
  unfold hB gB
  generalize hVec x5 x6 x8 (x0 (ix1 0)) (x1 (ix1 0)) = H
  generalize k0_pay29 x7 (x2 (ix1 0)) = gs
  generalize hC : View.canon (Val := Elt Ideal) (s := S256x5120) (e := .fp8e4m3) [_, _, _, _, _, _, _, _] = C
  obtain rfl : cVec gs H = C := (canonC gs H).symm.trans hC
  generalize e3 : View.ld x3 (Rect.unit ![0] ![1] inb_S1_S1_0) _ = q3
  obtain rfl : x3 (ix1 0) = q3 := (ldS x3 _).symm.trans e3
  exact (congrArg (fun v => k0_pay2 (F := Ideal) v) (shapeCast_self (mhidVec xs1 (k0_pay511 (fun j => cVec gs H ((Rect.unit (s := S256x5120) ![0, 0] ![256, 5120] inb_S256x5120_S256x5120_0_0).toLoadRect.idx j))) (k0_pay512 (x2 (ix1 0)) (x3 (ix1 0))) x9) shapeCasts_S8x128_S8x128)).trans (by rw [ldC])

end Cert.GuIdeal.Hand
-- ==== Proof.GuRef.lean ====
/- The arrays the reference of the gate and up product leaves. -/
module

public import proofs.«01_k».proof.Proof.Gen.GuRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuRefIdeal.Hand

open Cert.GuRefIdeal Cert.GuRefIdeal.Gen

variable (m : (ℓ : Loc nD τ sig) → Buf (Elt Ideal) ℓ)

/-- The residual: the input plus the rescaled row by column product. -/
def hOf (x : FVec Ideal S16384x5120 .bf16) (o : FVec Ideal S16384x1024 .fp8e4m3) (wo : FVec Ideal S1024x5120 .fp8e4m3) (os wos : FVec Ideal S1 .f32) :
    FVec Ideal S16384x5120 .f32 := fun j =>
  x (ix2 (j 0) (j 1)) + (∑ k : Fin 1024, o (ix2 (j 0) k) * wo (ix2 k (j 1))) * (os (ix1 0) * wos (ix1 0))

/-- The rows of the residual over the root of their mean square, times the weights. -/
def nOf (h : FVec Ideal S16384x5120 .f32) (g : FVec Ideal S1x5120 .f32) : FVec Ideal S16384x5120 .f32 := fun j =>
  Ideal.div (h (ix2 (j 0) (j 1))) (Ideal.sqrt (Ideal.div (∑ k : Fin 5120, h (ix2 (j 0) k) * h (ix2 (j 0) k)) (Ideal.ofBits .f32 0x45A00000#32)
    + Ideal.ofBits .f32 0x358637BD#32)) * g (ix2 0 (j 1))

/-- The codes: over the scale and clipped. -/
def cOf (n : FVec Ideal S16384x5120 .f32) (s : FVec Ideal S1 .f32) : FVec Ideal S16384x5120 .fp8e4m3 := fun j =>
  min (Ideal.ofBits .f32 0x43E00000#32) (max (Ideal.ofBits .f32 0xC3E00000#32) (Ideal.div (n (ix2 (j 0) (j 1))) (s (ix1 0))))

/-- The gated hidden array: the gate times its logistic times the partner. -/
def hidOf (C : FVec Ideal S16384x5120 .fp8e4m3) (w : FVec Ideal S5120x6400 .fp8e4m3) (xs ws : FVec Ideal S1 .f32) : FVec Ideal S16384x3200 .f32 := fun j =>
  ((∑ k : Fin 5120, C (ix2 (j 0) k) * w (ix2 k ⟨(j 1).val, lt_of_lt_of_le (j 1).isLt (by decide)⟩)) * (xs (ix1 0) * ws (ix1 0)))
    * Ideal.logistic ((∑ k : Fin 5120, C (ix2 (j 0) k) * w (ix2 k ⟨(j 1).val, lt_of_lt_of_le (j 1).isLt (by decide)⟩)) * (xs (ix1 0) * ws (ix1 0)))
    * ((∑ k : Fin 5120, C (ix2 (j 0) k) * w (ix2 k ⟨3200 + (j 1).val, Nat.add_lt_add_left (j 1).isLt 3200⟩)) * (xs (ix1 0) * ws (ix1 0)))

/-- The codes of the gated hidden array. -/
def chOf (h : FVec Ideal S16384x3200 .f32) (s : FVec Ideal S1 .f32) : FVec Ideal S16384x3200 .fp8e4m3 := fun j =>
  min (Ideal.ofBits .f32 0x43E00000#32) (max (Ideal.ofBits .f32 0xC3E00000#32) (Ideal.div (h (ix2 (j 0) (j 1))) (s (ix1 0))))

/-- The largest magnitude of an array, from minus infinity up. -/
def amaxN (n : FVec Ideal S16384x5120 .f32) : FVec Ideal S1 .f32 := fun _ =>
  Finset.fold max (Ideal.ofBits .f32 0xFF800000#32) (fun x : Fin 16384 × Fin 5120 => max (n (ix2 x.1 x.2)) (-(n (ix2 x.1 x.2)))) Finset.univ

/-- The largest magnitude of an array, from minus infinity up. -/
def amaxH (n : FVec Ideal S16384x3200 .f32) : FVec Ideal S1 .f32 := fun _ =>
  Finset.fold max (Ideal.ofBits .f32 0xFF800000#32) (fun x : Fin 16384 × Fin 3200 => max (n (ix2 x.1 x.2)) (-(n (ix2 x.1 x.2)))) Finset.univ

/-- The residual left by the one point. -/
theorem block_10 (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S16384x5120 .bf16) (harg5 : arg5.IsWhole) (arg6 : Memref sig .tc .vmem S16384x1024 .fp8e4m3) (harg6 : arg6.IsWhole) (arg7 : Memref sig .tc .vmem S1x5120 .f32) (harg7 : arg7.IsWhole) (arg8 : Memref sig .tc .vmem S1024x5120 .fp8e4m3) (harg8 : arg8.IsWhole) (arg9 : Memref sig .tc .vmem S5120x6400 .fp8e4m3) (harg9 : arg9.IsWhole) (arg10 : Memref sig .tc .vmem S16384x5120 .f32) (harg10 : arg10.IsWhole) (arg11 : Memref sig .tc .vmem S16384x5120 .fp8e4m3) (harg11 : arg11.IsWhole) (arg12 : Memref sig .tc .vmem S16384x3200 .fp8e4m3) (harg12 : arg12.IsWhole) (arg13 : Memref sig .tc .smem S1 .f32) (harg13 : arg13.IsWhole) (arg14 : Memref sig .tc .smem S1 .f32) (harg14 : arg14.IsWhole)
    (x0 : Vec Ideal S1 .f32) (x1 : Vec Ideal S1 .f32) (x2 : Vec Ideal S1 .f32) (x3 : Vec Ideal S1 .f32) (x4 : Vec Ideal S1 .f32) (x5 : Vec Ideal S16384x5120 .bf16) (x6 : Vec Ideal S16384x1024 .fp8e4m3) (x7 : Vec Ideal S1x5120 .f32) (x8 : Vec Ideal S1024x5120 .fp8e4m3) (x9 : Vec Ideal S5120x6400 .fp8e4m3) (y : S16384x5120.Idx) :
    out0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y = (hOf x5 x6 x8 x0 x1) y := by
  frame_out
  pointwise [k0_pay1, k0_pay2, k0_pay3, k0_pay4, k0_pay5, k0_pay6, k0_pay7, hOf, nOf, cOf, hidOf, chOf, Memref.IsWhole.read_unread]

/-- The codes of the normalised array left by the one point. -/
theorem block_11 (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S16384x5120 .bf16) (harg5 : arg5.IsWhole) (arg6 : Memref sig .tc .vmem S16384x1024 .fp8e4m3) (harg6 : arg6.IsWhole) (arg7 : Memref sig .tc .vmem S1x5120 .f32) (harg7 : arg7.IsWhole) (arg8 : Memref sig .tc .vmem S1024x5120 .fp8e4m3) (harg8 : arg8.IsWhole) (arg9 : Memref sig .tc .vmem S5120x6400 .fp8e4m3) (harg9 : arg9.IsWhole) (arg10 : Memref sig .tc .vmem S16384x5120 .f32) (harg10 : arg10.IsWhole) (arg11 : Memref sig .tc .vmem S16384x5120 .fp8e4m3) (harg11 : arg11.IsWhole) (arg12 : Memref sig .tc .vmem S16384x3200 .fp8e4m3) (harg12 : arg12.IsWhole) (arg13 : Memref sig .tc .smem S1 .f32) (harg13 : arg13.IsWhole) (arg14 : Memref sig .tc .smem S1 .f32) (harg14 : arg14.IsWhole)
    (x0 : Vec Ideal S1 .f32) (x1 : Vec Ideal S1 .f32) (x2 : Vec Ideal S1 .f32) (x3 : Vec Ideal S1 .f32) (x4 : Vec Ideal S1 .f32) (x5 : Vec Ideal S16384x5120 .bf16) (x6 : Vec Ideal S16384x1024 .fp8e4m3) (x7 : Vec Ideal S1x5120 .f32) (x8 : Vec Ideal S1024x5120 .fp8e4m3) (x9 : Vec Ideal S5120x6400 .fp8e4m3) (y : S16384x5120.Idx) :
    out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y = cOf (nOf (hOf x5 x6 x8 x0 x1) x7) x2 y := by
  frame_out
  pointwise [k0_pay1, k0_pay2, k0_pay3, k0_pay4, k0_pay5, k0_pay6, k0_pay7, hOf, nOf, cOf, hidOf, chOf, Memref.IsWhole.read_unread]

/-- The codes of the gated hidden array left by the one point. -/
theorem block_12 (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S16384x5120 .bf16) (harg5 : arg5.IsWhole) (arg6 : Memref sig .tc .vmem S16384x1024 .fp8e4m3) (harg6 : arg6.IsWhole) (arg7 : Memref sig .tc .vmem S1x5120 .f32) (harg7 : arg7.IsWhole) (arg8 : Memref sig .tc .vmem S1024x5120 .fp8e4m3) (harg8 : arg8.IsWhole) (arg9 : Memref sig .tc .vmem S5120x6400 .fp8e4m3) (harg9 : arg9.IsWhole) (arg10 : Memref sig .tc .vmem S16384x5120 .f32) (harg10 : arg10.IsWhole) (arg11 : Memref sig .tc .vmem S16384x5120 .fp8e4m3) (harg11 : arg11.IsWhole) (arg12 : Memref sig .tc .vmem S16384x3200 .fp8e4m3) (harg12 : arg12.IsWhole) (arg13 : Memref sig .tc .smem S1 .f32) (harg13 : arg13.IsWhole) (arg14 : Memref sig .tc .smem S1 .f32) (harg14 : arg14.IsWhole)
    (x0 : Vec Ideal S1 .f32) (x1 : Vec Ideal S1 .f32) (x2 : Vec Ideal S1 .f32) (x3 : Vec Ideal S1 .f32) (x4 : Vec Ideal S1 .f32) (x5 : Vec Ideal S16384x5120 .bf16) (x6 : Vec Ideal S16384x1024 .fp8e4m3) (x7 : Vec Ideal S1x5120 .f32) (x8 : Vec Ideal S1024x5120 .fp8e4m3) (x9 : Vec Ideal S5120x6400 .fp8e4m3) (y : S16384x3200.Idx) :
    out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y = chOf (hidOf (cOf (nOf (hOf x5 x6 x8 x0 x1) x7) x2) x9 x2 x3) x4 y := by
  frame_out
  pointwise [k0_pay1, k0_pay2, k0_pay3, k0_pay4, k0_pay5, k0_pay6, k0_pay7, hOf, nOf, cOf, hidOf, chOf, Memref.IsWhole.read_unread]

/-- The largest magnitude of the normalised array. -/
theorem block_13 (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S16384x5120 .bf16) (harg5 : arg5.IsWhole) (arg6 : Memref sig .tc .vmem S16384x1024 .fp8e4m3) (harg6 : arg6.IsWhole) (arg7 : Memref sig .tc .vmem S1x5120 .f32) (harg7 : arg7.IsWhole) (arg8 : Memref sig .tc .vmem S1024x5120 .fp8e4m3) (harg8 : arg8.IsWhole) (arg9 : Memref sig .tc .vmem S5120x6400 .fp8e4m3) (harg9 : arg9.IsWhole) (arg10 : Memref sig .tc .vmem S16384x5120 .f32) (harg10 : arg10.IsWhole) (arg11 : Memref sig .tc .vmem S16384x5120 .fp8e4m3) (harg11 : arg11.IsWhole) (arg12 : Memref sig .tc .vmem S16384x3200 .fp8e4m3) (harg12 : arg12.IsWhole) (arg13 : Memref sig .tc .smem S1 .f32) (harg13 : arg13.IsWhole) (arg14 : Memref sig .tc .smem S1 .f32) (harg14 : arg14.IsWhole)
    (x0 : Vec Ideal S1 .f32) (x1 : Vec Ideal S1 .f32) (x2 : Vec Ideal S1 .f32) (x3 : Vec Ideal S1 .f32) (x4 : Vec Ideal S1 .f32) (x5 : Vec Ideal S16384x5120 .bf16) (x6 : Vec Ideal S16384x1024 .fp8e4m3) (x7 : Vec Ideal S1x5120 .f32) (x8 : Vec Ideal S1024x5120 .fp8e4m3) (x9 : Vec Ideal S5120x6400 .fp8e4m3) (y : S1.Idx) :
    out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y = amaxN (nOf (hOf x5 x6 x8 x0 x1) x7) y := by
  frame_out
  pointwise [k0_pay1, k0_pay2, k0_pay3, k0_pay4, k0_pay5, k0_pay6, k0_pay7, hOf, nOf, cOf, hidOf, chOf, amaxN, amaxH, Memref.IsWhole.read_unread]
  rfl

/-- The largest magnitude of the gated hidden array. -/
theorem block_14 (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S16384x5120 .bf16) (harg5 : arg5.IsWhole) (arg6 : Memref sig .tc .vmem S16384x1024 .fp8e4m3) (harg6 : arg6.IsWhole) (arg7 : Memref sig .tc .vmem S1x5120 .f32) (harg7 : arg7.IsWhole) (arg8 : Memref sig .tc .vmem S1024x5120 .fp8e4m3) (harg8 : arg8.IsWhole) (arg9 : Memref sig .tc .vmem S5120x6400 .fp8e4m3) (harg9 : arg9.IsWhole) (arg10 : Memref sig .tc .vmem S16384x5120 .f32) (harg10 : arg10.IsWhole) (arg11 : Memref sig .tc .vmem S16384x5120 .fp8e4m3) (harg11 : arg11.IsWhole) (arg12 : Memref sig .tc .vmem S16384x3200 .fp8e4m3) (harg12 : arg12.IsWhole) (arg13 : Memref sig .tc .smem S1 .f32) (harg13 : arg13.IsWhole) (arg14 : Memref sig .tc .smem S1 .f32) (harg14 : arg14.IsWhole)
    (x0 : Vec Ideal S1 .f32) (x1 : Vec Ideal S1 .f32) (x2 : Vec Ideal S1 .f32) (x3 : Vec Ideal S1 .f32) (x4 : Vec Ideal S1 .f32) (x5 : Vec Ideal S16384x5120 .bf16) (x6 : Vec Ideal S16384x1024 .fp8e4m3) (x7 : Vec Ideal S1x5120 .f32) (x8 : Vec Ideal S1024x5120 .fp8e4m3) (x9 : Vec Ideal S5120x6400 .fp8e4m3) (y : S1.Idx) :
    out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y = amaxH (hidOf (cOf (nOf (hOf x5 x6 x8 x0 x1) x7) x2) x9 x2 x3) y := by
  frame_out
  pointwise [k0_pay1, k0_pay2, k0_pay3, k0_pay4, k0_pay5, k0_pay6, k0_pay7, hOf, nOf, cOf, hidOf, chOf, amaxN, amaxH, Memref.IsWhole.read_unread]
  rfl

/-- The index maps of the windows: one block each, the whole array. -/
theorem idx : ∀ t : Fin cfg0.N, win0_0.index t = ![0] ∧ win0_1.index t = ![0] ∧ win0_2.index t = ![0] ∧ win0_3.index t = ![0] ∧ win0_4.index t = ![0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0] ∧ win0_14.index t = ![0] :=
  (by decide +kernel : ∀ t : Fin grid0.N, _)

/-- Each window of the one point is its whole array. -/
theorem whole (c : Dev nD) (t : Fin cfg0.N) : iblk m c 0 t = (m ((c : Thread nD τ).loc main_arg5)) ∧ iblk m c 1 t = (m ((c : Thread nD τ).loc main_arg6)) ∧ iblk m c 2 t = (m ((c : Thread nD τ).loc main_arg7)) ∧ iblk m c 3 t = (m ((c : Thread nD τ).loc main_arg8)) ∧ iblk m c 4 t = (m ((c : Thread nD τ).loc main_arg9))
    ∧ iblk m c 5 t = (m ((c : Thread nD τ).loc main_arg0)) ∧ iblk m c 6 t = (m ((c : Thread nD τ).loc main_arg1)) ∧ iblk m c 7 t = (m ((c : Thread nD τ).loc main_arg2)) ∧ iblk m c 8 t = (m ((c : Thread nD τ).loc main_arg3)) ∧ iblk m c 9 t = (m ((c : Thread nD τ).loc main_arg4)) := by
  refine ⟨?_, ?_, ?_, ?_, ?_, ?_, ?_, ?_, ?_, ?_⟩ <;> funext y <;> blk_point [iblk, V, idx t]

/-- The residual array after the run. -/
theorem final_10 (c : Dev nD) : (dats m 0 c).arrAt 10 (cfgs 0).N
    = (hOf (m ((c : Thread nD τ).loc main_arg0)) (m ((c : Thread nD τ).loc main_arg1)) (m ((c : Thread nD τ).loc main_arg3)) (m ((c : Thread nD τ).loc main_arg5)) (m ((c : Thread nD τ).loc main_arg6))) := by
  refine (dats m 0 c).arrAt_eq_of_covers 10 _ (by decide +kernel) fun t hf y => ?_
  obtain ⟨e0, e1, e2, e3, e4, e5, e6, e7, e8, e9⟩ := whole m c t
  blk_simp
  rw [after0_10]
  unfold outsAt0
  dsimp only
  rw [block_10, e0, e1, e5, e6, e8]
  generalize (hOf (m ((c : Thread nD τ).loc main_arg0)) (m ((c : Thread nD τ).loc main_arg1)) (m ((c : Thread nD τ).loc main_arg3)) (m ((c : Thread nD τ).loc main_arg5)) (m ((c : Thread nD τ).loc main_arg6))) = v
  blk_point [idx t]

/-- The codes of the normalised array after the run. -/
theorem final_11 (c : Dev nD) : (dats m 0 c).arrAt 11 (cfgs 0).N
    = (cOf (nOf (hOf (m ((c : Thread nD τ).loc main_arg0)) (m ((c : Thread nD τ).loc main_arg1)) (m ((c : Thread nD τ).loc main_arg3)) (m ((c : Thread nD τ).loc main_arg5)) (m ((c : Thread nD τ).loc main_arg6))) (m ((c : Thread nD τ).loc main_arg2))) (m ((c : Thread nD τ).loc main_arg7))) := by
  refine (dats m 0 c).arrAt_eq_of_covers 11 _ (by decide +kernel) fun t hf y => ?_
  obtain ⟨e0, e1, e2, e3, e4, e5, e6, e7, e8, e9⟩ := whole m c t
  blk_simp
  rw [after0_11]
  unfold outsAt0
  dsimp only
  rw [block_11, e0, e1, e2, e5, e6, e7, e8]
  generalize (cOf (nOf (hOf (m ((c : Thread nD τ).loc main_arg0)) (m ((c : Thread nD τ).loc main_arg1)) (m ((c : Thread nD τ).loc main_arg3)) (m ((c : Thread nD τ).loc main_arg5)) (m ((c : Thread nD τ).loc main_arg6))) (m ((c : Thread nD τ).loc main_arg2))) (m ((c : Thread nD τ).loc main_arg7))) = v
  blk_point [idx t]

/-- The codes of the gated hidden array after the run. -/
theorem final_12 (c : Dev nD) : (dats m 0 c).arrAt 12 (cfgs 0).N
    = (chOf (hidOf (cOf (nOf (hOf (m ((c : Thread nD τ).loc main_arg0)) (m ((c : Thread nD τ).loc main_arg1)) (m ((c : Thread nD τ).loc main_arg3)) (m ((c : Thread nD τ).loc main_arg5)) (m ((c : Thread nD τ).loc main_arg6))) (m ((c : Thread nD τ).loc main_arg2))) (m ((c : Thread nD τ).loc main_arg7))) (m ((c : Thread nD τ).loc main_arg4)) (m ((c : Thread nD τ).loc main_arg7)) (m ((c : Thread nD τ).loc main_arg8))) (m ((c : Thread nD τ).loc main_arg9))) := by
  refine (dats m 0 c).arrAt_eq_of_covers 12 _ (by decide +kernel) fun t hf y => ?_
  obtain ⟨e0, e1, e2, e3, e4, e5, e6, e7, e8, e9⟩ := whole m c t
  blk_simp
  rw [after0_12]
  unfold outsAt0
  dsimp only
  rw [block_12, e0, e1, e2, e3, e4, e5, e6, e7, e8, e9]
  generalize (chOf (hidOf (cOf (nOf (hOf (m ((c : Thread nD τ).loc main_arg0)) (m ((c : Thread nD τ).loc main_arg1)) (m ((c : Thread nD τ).loc main_arg3)) (m ((c : Thread nD τ).loc main_arg5)) (m ((c : Thread nD τ).loc main_arg6))) (m ((c : Thread nD τ).loc main_arg2))) (m ((c : Thread nD τ).loc main_arg7))) (m ((c : Thread nD τ).loc main_arg4)) (m ((c : Thread nD τ).loc main_arg7)) (m ((c : Thread nD τ).loc main_arg8))) (m ((c : Thread nD τ).loc main_arg9))) = v
  blk_point [idx t]

/-- The largest magnitude of the normalised array after the run. -/
theorem final_13 (c : Dev nD) : (dats m 0 c).arrAt 13 (cfgs 0).N
    = (amaxN (nOf (hOf (m ((c : Thread nD τ).loc main_arg0)) (m ((c : Thread nD τ).loc main_arg1)) (m ((c : Thread nD τ).loc main_arg3)) (m ((c : Thread nD τ).loc main_arg5)) (m ((c : Thread nD τ).loc main_arg6))) (m ((c : Thread nD τ).loc main_arg2)))) := by
  refine (dats m 0 c).arrAt_eq_of_covers 13 _ (by decide +kernel) fun t hf y => ?_
  obtain ⟨e0, e1, e2, e3, e4, e5, e6, e7, e8, e9⟩ := whole m c t
  blk_simp
  rw [after0_13]
  unfold outsAt0
  dsimp only
  rw [block_13, e0, e1, e5, e6, e7, e8]
  generalize (amaxN (nOf (hOf (m ((c : Thread nD τ).loc main_arg0)) (m ((c : Thread nD τ).loc main_arg1)) (m ((c : Thread nD τ).loc main_arg3)) (m ((c : Thread nD τ).loc main_arg5)) (m ((c : Thread nD τ).loc main_arg6))) (m ((c : Thread nD τ).loc main_arg2)))) = v
  blk_point [idx t]

/-- The largest magnitude of the gated hidden array after the run. -/
theorem final_14 (c : Dev nD) : (dats m 0 c).arrAt 14 (cfgs 0).N
    = (amaxH (hidOf (cOf (nOf (hOf (m ((c : Thread nD τ).loc main_arg0)) (m ((c : Thread nD τ).loc main_arg1)) (m ((c : Thread nD τ).loc main_arg3)) (m ((c : Thread nD τ).loc main_arg5)) (m ((c : Thread nD τ).loc main_arg6))) (m ((c : Thread nD τ).loc main_arg2))) (m ((c : Thread nD τ).loc main_arg7))) (m ((c : Thread nD τ).loc main_arg4)) (m ((c : Thread nD τ).loc main_arg7)) (m ((c : Thread nD τ).loc main_arg8)))) := by
  refine (dats m 0 c).arrAt_eq_of_covers 14 _ (by decide +kernel) fun t hf y => ?_
  obtain ⟨e0, e1, e2, e3, e4, e5, e6, e7, e8, e9⟩ := whole m c t
  blk_simp
  rw [after0_14]
  unfold outsAt0
  dsimp only
  rw [block_14, e0, e1, e2, e3, e5, e6, e7, e8, e9]
  generalize (amaxH (hidOf (cOf (nOf (hOf (m ((c : Thread nD τ).loc main_arg0)) (m ((c : Thread nD τ).loc main_arg1)) (m ((c : Thread nD τ).loc main_arg3)) (m ((c : Thread nD τ).loc main_arg5)) (m ((c : Thread nD τ).loc main_arg6))) (m ((c : Thread nD τ).loc main_arg2))) (m ((c : Thread nD τ).loc main_arg7))) (m ((c : Thread nD τ).loc main_arg4)) (m ((c : Thread nD τ).loc main_arg7)) (m ((c : Thread nD τ).loc main_arg8)))) = v
  blk_point [idx t]

end Cert.GuRefIdeal.Hand
-- ==== Proof.GuArr.lean ====
/- The blocks of the points, read as parts of the whole arrays. -/
module

public import proofs.«01_k».proof.Proof.GuKer
public import proofs.«01_k».proof.Proof.GuRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuIdeal.Hand

open Cert.GuIdeal Cert.GuIdeal.Gen

open Cert.GuRefIdeal.Hand (hOf)

variable (m : (ℓ : Loc nD τ sig) → Buf (Elt Ideal) ℓ)

/-- The index maps of the windows, over all grid points. -/
theorem idx : ∀ t : Fin cfg0.N, win0_0.index t = ![0] ∧ win0_1.index t = ![0] ∧ win0_2.index t = ![0] ∧ win0_3.index t = ![0] ∧ win0_4.index t = ![0]
    ∧ win0_5.index t = ![t.val, 0] ∧ win0_6.index t = ![t.val, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![0] ∧ win0_14.index t = ![0] :=
  (by decide +kernel : ∀ t : Fin grid0.N, _)

/-- Row `i` of block `t`, as a row of the whole array. -/
def rowAt (t : Fin cfg0.N) (i : Fin 256) : Fin 16384 := ⟨256 * t.val + i.val, by have := lt_of_lt_of_eq t.isLt (show cfg0.N = 64 from N_0); omega⟩

/-- The weights of the normalisation. -/
abbrev aG (c : Dev nD) : FVec Ideal S1x5120 .f32 := (m ((c : Thread nD τ).loc main_arg2))
/-- The two projections' weights, side by side. -/
abbrev aW (c : Dev nD) : FVec Ideal S5120x6400 .fp8e4m3 := (m ((c : Thread nD τ).loc main_arg4))
/-- The scale of the normalised array. -/
abbrev aXS (c : Dev nD) : FVec Ideal S1 .f32 := (m ((c : Thread nD τ).loc main_arg7))
/-- The scale of the weights. -/
abbrev aWS (c : Dev nD) : FVec Ideal S1 .f32 := (m ((c : Thread nD τ).loc main_arg8))
/-- The scale of the hidden array. -/
abbrev aHS (c : Dev nD) : FVec Ideal S1 .f32 := (m ((c : Thread nD τ).loc main_arg9))

/-- The residual over the whole array. -/
def hA (c : Dev nD) : FVec Ideal S16384x5120 .f32 := hOf (m ((c : Thread nD τ).loc main_arg0)) (m ((c : Thread nD τ).loc main_arg1)) (m ((c : Thread nD τ).loc main_arg3)) (m ((c : Thread nD τ).loc main_arg5)) (m ((c : Thread nD τ).loc main_arg6))

/-- The normalised array over the scale, as the kernel computes it. -/
def zA (c : Dev nD) : FVec Ideal S16384x5120 .f32 := fun j =>
  hA m c (ix2 (j 0) (j 1)) * Ideal.rsqrt ((∑ k : Fin 5120, hA m c (ix2 (j 0) k) * hA m c (ix2 (j 0) k)) * (Named.named κ "inv_d" 0x394CCCCD#32 : Ideal .f32)
      + Ideal.ofBits .f32 0x358637BD#32) * ((aG m c) (ix2 0 (j 1)) * Ideal.div (Ideal.ofBits .f32 0x3F800000#32) ((aXS m c) (ix1 0)))

/-- The codes of the normalised array. -/
def cA (c : Dev nD) : FVec Ideal S16384x5120 .fp8e4m3 := fun j =>
  min (Ideal.ofBits .f32 0x43E00000#32) (max (Ideal.ofBits .f32 0xC3E00000#32) (zA m c (ix2 (j 0) (j 1))))

/-- The gated hidden array, as the kernel computes it. -/
def hidA (c : Dev nD) : FVec Ideal S16384x3200 .f32 := fun j =>
  gate ((∑ k : Fin 5120, cA m c (ix2 (j 0) k) * (aW m c) (ix2 k ⟨(j 1).val, lt_of_lt_of_le (j 1).isLt (by decide)⟩)) * ((aXS m c) (ix1 0) * (aWS m c) (ix1 0)))
    ((∑ k : Fin 5120, cA m c (ix2 (j 0) k) * (aW m c) (ix2 k ⟨3200 + (j 1).val, Nat.add_lt_add_left (j 1).isLt 3200⟩)) * ((aXS m c) (ix1 0) * (aWS m c) (ix1 0)))

/-- The codes of the gated hidden array. -/
def chA (c : Dev nD) : FVec Ideal S16384x3200 .fp8e4m3 := fun j =>
  min (Ideal.ofBits .f32 0x43E00000#32) (max (Ideal.ofBits .f32 0xC3E00000#32) (hidA m c (ix2 (j 0) (j 1)) * Ideal.div (Ideal.ofBits .f32 0x3F800000#32) ((aHS m c) (ix1 0))))

/-- A block's residual is its rows of the whole. -/
theorem hB_at (c : Dev nD) (t : Fin cfg0.N) (i : Fin 256) (k : Fin 5120) :
    hB (iblk m c 0 t) (iblk m c 1 t) (iblk m c 5 t) (iblk m c 6 t) (iblk m c 8 t) (ix2 i k) = hA m c (ix2 (rowAt t i) k) := by
  unfold hB hVec hA hOf rowAt
  blk_point [iblk, V, idx t]

/-- The weights over the scale, at an index. -/
theorem gB_at (c : Dev nD) (t : Fin cfg0.N) (k : Fin 5120) :
    gB (iblk m c 2 t) (iblk m c 7 t) (ix2 0 k) = (aG m c) (ix2 0 k) * Ideal.div (Ideal.ofBits .f32 0x3F800000#32) ((aXS m c) (ix1 0)) := by
  unfold gB
  pointwise [k0_pay29]
  blk_point [iblk, V, idx t]

/-- The codes' scalar factor. -/
theorem sg_at (c : Dev nD) (t : Fin cfg0.N) : k0_pay512 (iblk m c 2 t (ix1 0)) (iblk m c 3 t (ix1 0)) = (aXS m c) (ix1 0) * (aWS m c) (ix1 0) := by
  pointwise [k0_pay512]
  blk_point [iblk, V, idx t]

/-- The reciprocal of the second scale. -/
theorem rs_at (c : Dev nD) (t : Fin cfg0.N) : k0_pay513 (iblk m c 4 t (ix1 0)) (ix2 0 0) = Ideal.div (Ideal.ofBits .f32 0x3F800000#32) ((aHS m c) (ix1 0)) := by
  pointwise [k0_pay513]
  blk_point [iblk, V, idx t]

/-- The weights' block is the whole array. -/
theorem w_at (c : Dev nD) (t : Fin cfg0.N) (k : Fin 5120) (j : Fin 6400) : iblk m c 9 t (ix2 k j) = (aW m c) (ix2 k j) := by
  blk_point [iblk, V, idx t]

/-- The weights of a block over the scale. -/
abbrev gT (c : Dev nD) (t : Fin cfg0.N) : FVec Ideal S1x5120 .f32 := gB (iblk m c 2 t) (iblk m c 7 t)

/-- The residual of a block. -/
abbrev hT (c : Dev nD) (t : Fin cfg0.N) : Vec Ideal S256x5120 .f32 := hB (iblk m c 0 t) (iblk m c 1 t) (iblk m c 5 t) (iblk m c 6 t) (iblk m c 8 t)

/-- The normalised block is its rows of the whole. -/
theorem zT_at (c : Dev nD) (t : Fin cfg0.N) (i : Fin 256) (k : Fin 5120) : zVec (gT m c t) (hT m c t) (ix2 i k) = zA m c (ix2 (rowAt t i) k) := by
  show hT m c t (ix2 i k) * Ideal.rsqrt ((∑ k : Fin 5120, hT m c t (ix2 i k) * hT m c t (ix2 i k)) * _ + _) * gB (iblk m c 2 t) (iblk m c 7 t) (ix2 0 k) = _
  rw [gB_at]
  simp only [hB_at]
  rfl

/-- The block's codes are its rows of the whole. -/
theorem cT_at (c : Dev nD) (t : Fin cfg0.N) (i : Fin 256) (k : Fin 5120) : cVec (gT m c t) (hT m c t) (ix2 i k) = cA m c (ix2 (rowAt t i) k) := by
  unfold cVec
  rw [zT_at]
  rfl

/-- The gated hidden block of a point. -/
abbrev hidT (c : Dev nD) (t : Fin cfg0.N) : FVec Ideal S256x3200 .f32 :=
  hidVec (cVec (gT m c t) (hT m c t)) (k0_pay512 (iblk m c 2 t (ix1 0)) (iblk m c 3 t (ix1 0))) (iblk m c 9 t)

/-- The gated hidden block is its rows of the whole. -/
theorem hidT_at (c : Dev nD) (t : Fin cfg0.N) (i : Fin 256) (k : Fin 3200) : hidT m c t (ix2 i k) = hidA m c (ix2 (rowAt t i) k) := by
  unfold hidT hidVec
  rw [sg_at]
  exact congrArg₂ (fun a b : EReal => gate (a * ((aXS m c) (ix1 0) * (aWS m c) (ix1 0))) (b * ((aXS m c) (ix1 0) * (aWS m c) (ix1 0))))
    (Finset.sum_congr rfl fun q _ => congrArg₂ (· * ·) (cT_at m c t i q) (w_at m c t q _)) (Finset.sum_congr rfl fun q _ => congrArg₂ (· * ·) (cT_at m c t i q) (w_at m c t q _))

/-- The codes of the gated hidden block are its rows of the whole. -/
theorem chT_at (c : Dev nD) (t : Fin cfg0.N) (i : Fin 256) (k : Fin 3200) : chidVec (k0_pay513 (iblk m c 4 t (ix1 0))) (hidT m c t) (ix2 i k) = chA m c (ix2 (rowAt t i) k) := by
  unfold chidVec
  rw [hidT_at, rs_at]
  rfl

end Cert.GuIdeal.Hand
-- ==== Proof.GuMath.lean ====
module

public import Idealize.ShloMosaic.Lib.IdealHost

/-! Equalities over the extended reals between the kernel's scalar expressions and the reference's. -/

@[expose] public section

namespace Cert.Math

open Idealize.ShloMosaic

/-- A quotient by a value that is not zero is a product with the inverse. -/
theorem div_eq {x y : EReal} (h : y ≠ 0) : Ideal.div x y = x * y⁻¹ := by simp [Ideal.div, h]

/-- Multiplying by the reciprocal is dividing. -/
theorem mul_div_one {x y : EReal} (h : y ≠ 0) : x * Ideal.div 1 y = Ideal.div x y := by simp [div_eq h]

/-- The sum of the squares is not negative. -/
theorem sq_nonneg {ι : Type} (s : Finset ι) (f : ι → EReal) : 0 ≤ ∑ k ∈ s, f k * f k :=
  Finset.sum_nonneg fun k _ => by
    induction f k with
    | bot => simp
    | top => simp
    | coe r => exact_mod_cast mul_self_nonneg r

/-- The reciprocal root of a mean plus a positive number is the inverse of the root of it, which is not zero. -/
theorem root_mean {ss : EReal} (hs : 0 ≤ ss) {e : ℝ} (he : 0 < e) : ∃ b : EReal, Ideal.rsqrt (ss * ((1 / 5120 : ℝ) : EReal) + (e : EReal)) = b⁻¹
    ∧ Ideal.sqrt (Ideal.div ss ((5120 : ℝ) : EReal) + (e : EReal)) = b ∧ b ≠ 0 := by
  have h5 : ((5120 : ℝ) : EReal) ≠ 0 := by exact_mod_cast (by norm_num : (5120 : ℝ) ≠ 0)
  rw [div_eq h5]
  induction ss with
  | bot => simp at hs
  | top =>
    refine ⟨⊤, ?_, ?_, by simp⟩
    · rw [EReal.top_mul_coe_of_pos (by norm_num), EReal.top_add_coe]; simp
    · rw [← EReal.coe_inv, EReal.top_mul_coe_of_pos (by norm_num), EReal.top_add_coe]; rfl
  | coe r =>
    have hr : 0 ≤ r := by exact_mod_cast hs
    have hp : 0 < r * (1 / 5120) + e := by positivity
    refine ⟨((Real.sqrt (r * (1 / 5120) + e) : ℝ) : EReal), ?_, ?_, ?_⟩
    · rw [← EReal.coe_mul, ← EReal.coe_add, ← EReal.coe_inv]
      show (if r * (1 / 5120) + e < 0 then ⊥ else if r * (1 / 5120) + e = 0 then ⊤ else (((Real.sqrt (r * (1 / 5120) + e))⁻¹ : ℝ) : EReal)) = _
      rw [if_neg (not_lt.mpr hp.le), if_neg hp.ne']
    · rw [← EReal.coe_inv, ← EReal.coe_mul, ← EReal.coe_add, ← one_div]
      show (if r * (1 / 5120) + e < 0 then ⊥ else ((Real.sqrt (r * (1 / 5120) + e) : ℝ) : EReal)) = _
      rw [if_neg (not_lt.mpr hp.le)]
    · exact_mod_cast (Real.sqrt_pos.mpr hp).ne'

/-- The same inside the normalisation over a scale. -/
theorem rsqrt_mean {ss : EReal} (hs : 0 ≤ ss) {e : ℝ} (he : 0 < e) (h g xs : EReal) (hx : xs ≠ 0) :
    h * Ideal.rsqrt (ss * ((1 / 5120 : ℝ) : EReal) + (e : EReal)) * (g * Ideal.div 1 xs)
      = Ideal.div (Ideal.div h (Ideal.sqrt (Ideal.div ss ((5120 : ℝ) : EReal) + (e : EReal))) * g) xs := by
  obtain ⟨b, e1, e2, hb⟩ := root_mean hs he
  rw [e1, e2, div_eq hb, div_eq hx, div_eq hx, one_mul, mul_assoc, mul_assoc, mul_assoc]

/-- Multiplying by one over the root of the mean is dividing by it. -/
theorem div_root_mean {ss : EReal} (hs : 0 ≤ ss) {e : ℝ} (he : 0 < e) (h g : EReal) :
    h * Ideal.div 1 (Ideal.sqrt (ss * ((1 / 5120 : ℝ) : EReal) + (e : EReal))) * g
      = Ideal.div h (Ideal.sqrt (Ideal.div ss ((5120 : ℝ) : EReal) + (e : EReal))) * g := by
  have h5 : ((5120 : ℝ) : EReal) ≠ 0 := by exact_mod_cast (by norm_num : (5120 : ℝ) ≠ 0)
  obtain ⟨b, _, e2, hb⟩ := root_mean hs he
  rw [show ss * ((1 / 5120 : ℝ) : EReal) = Ideal.div ss ((5120 : ℝ) : EReal) by rw [div_eq h5, one_div, EReal.coe_inv], e2, mul_div_one hb]

/-- The kernel's sigmoid, written by a power of two, is the logistic function. -/
theorem sigmoid (g : EReal) :
    Ideal.div 1 (1 + Ideal.exp2 (g * ((-((Real.log 2)⁻¹) : ℝ) : EReal))) = Ideal.logistic g := by
  have h2 : 0 < Real.log 2 := Real.log_pos (by norm_num)
  have hn : -((Real.log 2)⁻¹) < 0 := by have := inv_pos.mpr h2; linarith
  induction g with
  | bot => rw [EReal.bot_mul_coe_of_neg hn]; simp [Ideal.logistic]
  | top => rw [EReal.top_mul_coe_of_neg hn]; simp [Ideal.logistic]
  | coe r =>
    rw [← EReal.coe_mul, Ideal.logistic, ← EReal.coe_neg]
    congr 2
    show ((Real.rpow 2 _ : ℝ) : EReal) = ((Real.exp _ : ℝ) : EReal)
    congr 1
    rw [Real.rpow_eq_pow, Real.rpow_def_of_pos (by norm_num)]
    congr 1
    field_simp

/-- The magnitude of a product with a value that is not negative. -/
theorem max_neg_mul {z b : EReal} (hb : 0 ≤ b) : max (z * b) (-(z * b)) = max z (-z) * b := by
  rw [← EReal.neg_mul]
  rcases le_total z (-z) with h | h
  · rw [max_eq_right h, max_eq_right (mul_le_mul_of_nonneg_right h hb)]
  · rw [max_eq_left h, max_eq_left (mul_le_mul_of_nonneg_right h hb)]

/-- A magnitude is not negative. -/
theorem max_neg_nonneg (z : EReal) : 0 ≤ max z (-z) := by
  rcases le_total 0 z with h | h
  · exact le_max_of_le_left h
  · exact le_max_of_le_right (by simpa using EReal.neg_le_neg_iff.mpr h)

/-- Dividing by a positive finite value and multiplying by it again changes nothing. -/
theorem div_mul_self {z b : EReal} (h0 : b ≠ 0) (hp : 0 < b) (ht : b ≠ ⊤) : Ideal.div z b * b = z := by
  rw [div_eq h0, mul_assoc]
  induction b with
  | bot => simp at hp
  | top => exact absurd rfl ht
  | coe r =>
    have hr : r ≠ 0 := by rintro rfl; simp at h0
    rw [← EReal.coe_inv, ← EReal.coe_mul, inv_mul_cancel₀ hr, EReal.coe_one, mul_one]

/-- The word of the small number under the root is a positive real. -/
theorem eps_pos : ∃ e : ℝ, 0 < e ∧ Ideal.ofBits .f32 0x358637BD#32 = (e : EReal) := by
  refine ⟨_, ?_, by simp [Ideal.ofBits, Ideal.ieee]; rfl⟩
  norm_num

/-- The word of the row length. -/
theorem len_val : Ideal.ofBits .f32 0x45A00000#32 = ((5120 : ℝ) : EReal) := by
  simp [Ideal.ofBits, Ideal.ieee, -EReal.coe_mul]; norm_num

/-- The word of one. -/
theorem one_val : Ideal.ofBits .f32 0x3F800000#32 = 1 := by simp

/-- The word of minus infinity. -/
theorem neg_inf_val : Ideal.ofBits .f32 0xFF800000#32 = ⊥ := by
  simp [Ideal.ofBits, Ideal.ieee]

/-- The largest of a family from minus infinity up is at most a bound when every member is. -/
theorem fold_max_le {ι : Type} [Fintype ι] (f : ι → EReal) (c : EReal) : Finset.fold max ⊥ f Finset.univ ≤ c ↔ ∀ x, f x ≤ c := by
  rw [Finset.fold_max_le]
  simp

end Cert.Math
-- ==== Proof.GuFin.lean ====
/- What the outputs and the two carried maxima hold after each point. -/
module

public import proofs.«01_k».proof.Proof.GuArr
public import proofs.«01_k».proof.Proof.GuMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuIdeal.Hand

open Cert.GuIdeal Cert.GuIdeal.Gen

variable (m : (ℓ : Loc nD τ sig) → Buf (Elt Ideal) ℓ)

/-- Output 10 after a point: its rows of the whole array. -/
theorem point_10 (c : Dev nD) (t : Fin cfg0.N) (i : Fin 256) (k : Fin 5120) : (outsAt0 m c t.val t.isLt).1 (ix2 i k) = hA m c (ix2 (rowAt t i) k) := by
  have hN : t.val < 64 := lt_of_lt_of_eq t.isLt (show cfg0.N = 64 from N_0)
  by_cases h0 : t.val % 64 = 0
  · rw [outsAt0_A m c t h0 (by omega)]
    dsimp only
    rw [out0_A_10_eq]
    exact hB_at m c t i k
  · by_cases h1 : t.val % 64 = 63
    · rw [outsAt0_C m c t h0 h1]
      dsimp only
      rw [out0_C_10_eq]
      exact hB_at m c t i k
    · rw [outsAt0_B m c t h0 h1]
      dsimp only
      rw [out0_B_10_eq]
      exact hB_at m c t i k

/-- Output 11 after a point: its rows of the whole array. -/
theorem point_11 (c : Dev nD) (t : Fin cfg0.N) (i : Fin 256) (k : Fin 5120) : (outsAt0 m c t.val t.isLt).2.1 (ix2 i k) = cA m c (ix2 (rowAt t i) k) := by
  have hN : t.val < 64 := lt_of_lt_of_eq t.isLt (show cfg0.N = 64 from N_0)
  by_cases h0 : t.val % 64 = 0
  · rw [outsAt0_A m c t h0 (by omega)]
    dsimp only
    rw [out0_A_11_eq]
    exact cT_at m c t i k
  · by_cases h1 : t.val % 64 = 63
    · rw [outsAt0_C m c t h0 h1]
      dsimp only
      rw [out0_C_11_eq]
      exact cT_at m c t i k
    · rw [outsAt0_B m c t h0 h1]
      dsimp only
      rw [out0_B_11_eq]
      exact cT_at m c t i k

/-- Output 12 after a point: its rows of the whole array. -/
theorem point_12 (c : Dev nD) (t : Fin cfg0.N) (i : Fin 256) (k : Fin 3200) : (outsAt0 m c t.val t.isLt).2.2.1 (ix2 i k) = chA m c (ix2 (rowAt t i) k) := by
  have hN : t.val < 64 := lt_of_lt_of_eq t.isLt (show cfg0.N = 64 from N_0)
  by_cases h0 : t.val % 64 = 0
  · rw [outsAt0_A m c t h0 (by omega)]
    dsimp only
    rw [out0_A_12_eq]
    exact chT_at m c t i k
  · by_cases h1 : t.val % 64 = 63
    · rw [outsAt0_C m c t h0 h1]
      dsimp only
      rw [out0_C_12_eq]
      exact chT_at m c t i k
    · rw [outsAt0_B m c t h0 h1]
      dsimp only
      rw [out0_B_12_eq]
      exact chT_at m c t i k

/-- Output 10 after the run: the whole array. -/
theorem final_10 (c : Dev nD) : (dats m 0 c).arrAt 10 (cfgs 0).N = hA m c := by
  refine (dats m 0 c).arrAt_eq_of_covers 10 _ (by decide +kernel) fun t hf y => ?_
  blk_simp
  rw [after0_10]
  obtain ⟨i, k, rfl⟩ : ∃ (i : Fin 256) (k : Fin 5120), y = ix2 i k := ⟨y 0, y 1, (ix2_eta y).symm⟩
  rw [point_10]
  refine congrArg (hA m c) ?_
  unfold rowAt
  blk_point [idx t]

/-- Output 11 after the run: the whole array. -/
theorem final_11 (c : Dev nD) : (dats m 0 c).arrAt 11 (cfgs 0).N = cA m c := by
  refine (dats m 0 c).arrAt_eq_of_covers 11 _ (by decide +kernel) fun t hf y => ?_
  blk_simp
  rw [after0_11]
  obtain ⟨i, k, rfl⟩ : ∃ (i : Fin 256) (k : Fin 5120), y = ix2 i k := ⟨y 0, y 1, (ix2_eta y).symm⟩
  rw [point_11]
  refine congrArg (cA m c) ?_
  unfold rowAt
  blk_point [idx t]

/-- Output 12 after the run: the whole array. -/
theorem final_12 (c : Dev nD) : (dats m 0 c).arrAt 12 (cfgs 0).N = chA m c := by
  refine (dats m 0 c).arrAt_eq_of_covers 12 _ (by decide +kernel) fun t hf y => ?_
  blk_simp
  rw [after0_12]
  obtain ⟨i, k, rfl⟩ : ∃ (i : Fin 256) (k : Fin 3200), y = ix2 i k := ⟨y 0, y 1, (ix2_eta y).symm⟩
  rw [point_12]
  refine congrArg (chA m c) ?_
  unfold rowAt
  blk_point [idx t]

/-- The carried maximum 0 after position `n`. -/
abbrev carry0 (c : Dev nD) (n : ℕ) (hn : n < cfg0.N) : FVec Ideal S8x128 .f32 := (outsAt0 m c n hn).2.2.2.2.2.1

/-- The first point starts the carried maximum from zeros. -/
theorem carry0_first (c : Dev nD) (t : Fin cfg0.N) (h0 : t.val % 64 = 0) : carry0 m c t.val t.isLt = mVec (gT m c t) k0_pay3 (hT m c t) := by
  funext y
  unfold carry0
  rw [outsAt0_A m c t h0 (by omega)]
  dsimp only
  rw [sout0_A_0_eq]

/-- A later point extends what the point before left. -/
theorem carry0_next (c : Dev nD) (t : Fin cfg0.N) (h0 : ¬t.val % 64 = 0) :
    carry0 m c t.val t.isLt = mVec (gT m c t) (carry0 m c (t.val - 1) (Nat.lt_of_le_of_lt (Nat.sub_le _ _) t.isLt)) (hT m c t) := by
  funext y
  unfold carry0
  by_cases h1 : t.val % 64 = 63
  · rw [outsAt0_C m c t h0 h1]
    dsimp only
    rw [sout0_C_0_eq]
  · rw [outsAt0_B m c t h0 h1]
    dsimp only
    rw [sout0_B_0_eq]

/-- The zeros the carried maximum starts from. -/
theorem carry0_zero (i : Fin 8) (l : Fin 128) : k0_pay3 (F := Ideal) (ix2 i l) = 0 := by
  pointwise [k0_pay3]

/-- One point's rows bound the maximum it carries. -/
theorem carry0_step (c : Dev nD) (t : Fin cfg0.N) (acc : FVec Ideal S8x128 .f32) (b : EReal) :
    (∀ (i : Fin 8) (l : Fin 128), (mVec (gT m c t) acc (hT m c t)) (ix2 i l) ≤ b)
      ↔ (∀ (i : Fin 8) (l : Fin 128), acc (ix2 i l) ≤ b) ∧ ∀ (i : Fin 256) (k : Fin 5120), max (zA m c (ix2 (rowAt t i) k)) (-(zA m c (ix2 (rowAt t i) k))) ≤ b := by
  rw [mVec_le]
  refine and_congr_right fun _ => forall_congr' fun i => forall_congr' fun k => ?_
  rw [zT_at]

/-- The carried maximum is at most a bound when the magnitudes of all the rows so far are. -/
theorem carry0_le (c : Dev nD) (b : EReal) : ∀ (n : ℕ) (hn : n < cfg0.N), (∀ (i : Fin 8) (l : Fin 128), carry0 m c n hn (ix2 i l) ≤ b)
    ↔ 0 ≤ b ∧ ∀ s : Fin cfg0.N, s.val ≤ n → ∀ (i : Fin 256) (k : Fin 5120), max (zA m c (ix2 (rowAt s i) k)) (-(zA m c (ix2 (rowAt s i) k))) ≤ b := by
  intro n
  induction n with
  | zero =>
    intro hn
    have e := carry0_first m c ⟨0, hn⟩ rfl
    rw [show carry0 m c 0 hn = _ from e, carry0_step]
    simp only [carry0_zero]
    constructor
    · rintro ⟨h, g⟩
      refine ⟨h 0 0, fun s hs => ?_⟩
      obtain rfl : s = ⟨0, hn⟩ := Fin.ext (Nat.le_zero.mp hs)
      exact g
    · rintro ⟨h, g⟩
      exact ⟨fun _ _ => h, g ⟨0, hn⟩ le_rfl⟩
  | succ n ih =>
    intro hn
    have hN : n + 1 < 64 := lt_of_lt_of_eq hn (show cfg0.N = 64 from N_0)
    have e := carry0_next m c ⟨n + 1, hn⟩ (by show ¬(n + 1) % 64 = 0; omega)
    rw [show carry0 m c (n + 1) hn = _ from e, carry0_step]
    refine (and_congr_left' (ih (Nat.lt_of_succ_lt hn))).trans ?_
    constructor
    · rintro ⟨⟨h, g⟩, g'⟩
      refine ⟨h, fun s hs => ?_⟩
      rcases Nat.lt_or_ge n s.val with hs' | hs'
      · obtain rfl : s = ⟨n + 1, hn⟩ := Fin.ext (by show s.val = n + 1; omega)
        exact g'
      · exact g s hs'
    · rintro ⟨h, g⟩
      exact ⟨⟨h, fun s hs => g s (Nat.le_succ_of_le hs)⟩, g ⟨n + 1, hn⟩ le_rfl⟩

/-- After the last point the carried maximum is at most a bound when the magnitudes of the whole array are. -/
theorem carry0_last (c : Dev nD) (b : EReal) (t : Fin cfg0.N) (ht : t.val % 64 = 63) : (∀ (i : Fin 8) (l : Fin 128), carry0 m c t.val t.isLt (ix2 i l) ≤ b)
    ↔ ∀ (p : Fin 16384) (k : Fin 5120), max (zA m c (ix2 p k)) (-(zA m c (ix2 p k))) ≤ b := by
  have hN : t.val < 64 := lt_of_lt_of_eq t.isLt (show cfg0.N = 64 from N_0)
  rw [carry0_le]
  constructor
  · rintro ⟨_, g⟩ p k
    have hp : p.val / 256 < cfg0.N := lt_of_lt_of_eq (show p.val / 256 < 64 by omega) (show cfg0.N = 64 from N_0).symm
    have := g ⟨p.val / 256, hp⟩ (by show p.val / 256 ≤ t.val; omega) ⟨p.val % 256, Nat.mod_lt _ (by decide)⟩ k
    rwa [show rowAt ⟨p.val / 256, hp⟩ ⟨p.val % 256, Nat.mod_lt _ (by decide)⟩ = p from Fin.ext (Nat.div_add_mod _ _)] at this
  · intro g
    exact ⟨(Cert.Math.max_neg_nonneg _).trans (g ⟨0, by decide⟩ ⟨0, by decide⟩), fun s _ i k => g _ k⟩

/-- The carried maximum 1 after position `n`. -/
abbrev carry1 (c : Dev nD) (n : ℕ) (hn : n < cfg0.N) : FVec Ideal S8x128 .f32 := (outsAt0 m c n hn).2.2.2.2.2.2

/-- The first point starts the carried maximum from zeros. -/
theorem carry1_first (c : Dev nD) (t : Fin cfg0.N) (h0 : t.val % 64 = 0) : carry1 m c t.val t.isLt = mhidVec k0_pay4 (cVec (gT m c t) (hT m c t)) (k0_pay512 (iblk m c 2 t (ix1 0)) (iblk m c 3 t (ix1 0))) (iblk m c 9 t) := by
  funext y
  unfold carry1
  rw [outsAt0_A m c t h0 (by omega)]
  dsimp only
  rw [sout0_A_1_eq]

/-- A later point extends what the point before left. -/
theorem carry1_next (c : Dev nD) (t : Fin cfg0.N) (h0 : ¬t.val % 64 = 0) :
    carry1 m c t.val t.isLt = mhidVec (carry1 m c (t.val - 1) (Nat.lt_of_le_of_lt (Nat.sub_le _ _) t.isLt)) (cVec (gT m c t) (hT m c t)) (k0_pay512 (iblk m c 2 t (ix1 0)) (iblk m c 3 t (ix1 0))) (iblk m c 9 t) := by
  funext y
  unfold carry1
  by_cases h1 : t.val % 64 = 63
  · rw [outsAt0_C m c t h0 h1]
    dsimp only
    rw [sout0_C_1_eq]
  · rw [outsAt0_B m c t h0 h1]
    dsimp only
    rw [sout0_B_1_eq]

/-- The zeros the carried maximum starts from. -/
theorem carry1_zero (i : Fin 8) (l : Fin 128) : k0_pay4 (F := Ideal) (ix2 i l) = 0 := by
  pointwise [k0_pay4]

/-- One point's rows bound the maximum it carries. -/
theorem carry1_step (c : Dev nD) (t : Fin cfg0.N) (acc : FVec Ideal S8x128 .f32) (b : EReal) :
    (∀ (i : Fin 8) (l : Fin 128), (mhidVec acc (cVec (gT m c t) (hT m c t)) (k0_pay512 (iblk m c 2 t (ix1 0)) (iblk m c 3 t (ix1 0))) (iblk m c 9 t)) (ix2 i l) ≤ b)
      ↔ (∀ (i : Fin 8) (l : Fin 128), acc (ix2 i l) ≤ b) ∧ ∀ (i : Fin 256) (k : Fin 3200), max (hidA m c (ix2 (rowAt t i) k)) (-(hidA m c (ix2 (rowAt t i) k))) ≤ b := by
  rw [mhidVec_le]
  refine and_congr_right fun _ => forall_congr' fun i => forall_congr' fun k => ?_
  rw [show hidVec _ _ _ (ix2 i k) = _ from hidT_at m c t i k]

/-- The carried maximum is at most a bound when the magnitudes of all the rows so far are. -/
theorem carry1_le (c : Dev nD) (b : EReal) : ∀ (n : ℕ) (hn : n < cfg0.N), (∀ (i : Fin 8) (l : Fin 128), carry1 m c n hn (ix2 i l) ≤ b)
    ↔ 0 ≤ b ∧ ∀ s : Fin cfg0.N, s.val ≤ n → ∀ (i : Fin 256) (k : Fin 3200), max (hidA m c (ix2 (rowAt s i) k)) (-(hidA m c (ix2 (rowAt s i) k))) ≤ b := by
  intro n
  induction n with
  | zero =>
    intro hn
    have e := carry1_first m c ⟨0, hn⟩ rfl
    rw [show carry1 m c 0 hn = _ from e, carry1_step]
    simp only [carry1_zero]
    constructor
    · rintro ⟨h, g⟩
      refine ⟨h 0 0, fun s hs => ?_⟩
      obtain rfl : s = ⟨0, hn⟩ := Fin.ext (Nat.le_zero.mp hs)
      exact g
    · rintro ⟨h, g⟩
      exact ⟨fun _ _ => h, g ⟨0, hn⟩ le_rfl⟩
  | succ n ih =>
    intro hn
    have hN : n + 1 < 64 := lt_of_lt_of_eq hn (show cfg0.N = 64 from N_0)
    have e := carry1_next m c ⟨n + 1, hn⟩ (by show ¬(n + 1) % 64 = 0; omega)
    rw [show carry1 m c (n + 1) hn = _ from e, carry1_step]
    refine (and_congr_left' (ih (Nat.lt_of_succ_lt hn))).trans ?_
    constructor
    · rintro ⟨⟨h, g⟩, g'⟩
      refine ⟨h, fun s hs => ?_⟩
      rcases Nat.lt_or_ge n s.val with hs' | hs'
      · obtain rfl : s = ⟨n + 1, hn⟩ := Fin.ext (by show s.val = n + 1; omega)
        exact g'
      · exact g s hs'
    · rintro ⟨h, g⟩
      exact ⟨⟨h, fun s hs => g s (Nat.le_succ_of_le hs)⟩, g ⟨n + 1, hn⟩ le_rfl⟩

/-- After the last point the carried maximum is at most a bound when the magnitudes of the whole array are. -/
theorem carry1_last (c : Dev nD) (b : EReal) (t : Fin cfg0.N) (ht : t.val % 64 = 63) : (∀ (i : Fin 8) (l : Fin 128), carry1 m c t.val t.isLt (ix2 i l) ≤ b)
    ↔ ∀ (p : Fin 16384) (k : Fin 3200), max (hidA m c (ix2 p k)) (-(hidA m c (ix2 p k))) ≤ b := by
  have hN : t.val < 64 := lt_of_lt_of_eq t.isLt (show cfg0.N = 64 from N_0)
  rw [carry1_le]
  constructor
  · rintro ⟨_, g⟩ p k
    have hp : p.val / 256 < cfg0.N := lt_of_lt_of_eq (show p.val / 256 < 64 by omega) (show cfg0.N = 64 from N_0).symm
    have := g ⟨p.val / 256, hp⟩ (by show p.val / 256 ≤ t.val; omega) ⟨p.val % 256, Nat.mod_lt _ (by decide)⟩ k
    rwa [show rowAt ⟨p.val / 256, hp⟩ ⟨p.val % 256, Nat.mod_lt _ (by decide)⟩ = p from Fin.ext (Nat.div_add_mod _ _)] at this
  · intro g
    exact ⟨(Cert.Math.max_neg_nonneg _).trans (g ⟨0, by decide⟩ ⟨0, by decide⟩), fun s _ i k => g _ k⟩

/-- The largest of the carried maximum, at a bound. -/
theorem pay2_le (v : FVec Ideal S8x128 .f32) (b : EReal) : k0_pay2 (F := Ideal) v ≤ b ↔ ∀ (i : Fin 8) (l : Fin 128), v (ix2 i l) ≤ b := by
  have h : k0_pay2 (F := Ideal) v = Finset.fold max ⊥ (fun x : Fin 8 × Fin 128 => v (ix2 x.1 x.2)) Finset.univ := by
    pointwise [k0_pay2]
    rw [Cert.Math.neg_inf_val]
  rw [h, Cert.Math.fold_max_le]
  exact Prod.forall

/-- The scaled payload is the largest of the carried maximum times the scale. -/
theorem pay1_eq (v : FVec Ideal S8x128 .f32) (s : Ideal .f32) : k0_pay1 v s = k0_pay2 (F := Ideal) v * s := rfl

end Cert.GuIdeal.Hand
-- ==== Proof.GuEq.lean ====
/- The kernel's arrays are the reference's, when the scales are proper. -/
module

public import proofs.«01_k».proof.Proof.GuFin
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuIdeal.Hand

open Cert.GuIdeal Cert.GuIdeal.Gen

open Cert.GuRefIdeal.Hand (hOf nOf cOf hidOf chOf amaxN amaxH)

variable (m : (ℓ : Loc nD τ sig) → Buf (Elt Ideal) ℓ)

/-- The value of the constant standing for one over the row length. -/
theorem inv_len : (Named.named κ "inv_d" 0x394CCCCD#32 : Ideal .f32) = ((1 / 5120 : ℝ) : EReal) := IdealRules.named_const.ideal_named_scalar _ _ _ _ rfl

/-- The value of the constant standing for minus the base-two logarithm of e. -/
theorem neg_log : (Named.named κ "neg_log2e" 0xBFB8AA3B#32 : Ideal .f32) = ((-((Real.log 2)⁻¹) : ℝ) : EReal) := IdealRules.named_const.ideal_named_scalar _ _ _ _ rfl

/-- The reference's normalised array, of the kernel's arguments. -/
abbrev nA (c : Dev nD) : FVec Ideal S16384x5120 .f32 := nOf (hA m c) (aG m c)

/-- The kernel's normalised value over the scale is the reference's over the scale. -/
theorem zA_eq (c : Dev nD) (hx0 : 0 < aXS m c (ix1 0)) (p : Fin 16384) (k : Fin 5120) : zA m c (ix2 p k) = Ideal.div (nA m c (ix2 p k)) (aXS m c (ix1 0)) := by
  obtain ⟨e, he, ev⟩ := Cert.Math.eps_pos
  have key := Cert.Math.rsqrt_mean (Cert.Math.sq_nonneg Finset.univ (fun k : Fin 5120 => hA m c (ix2 p k))) he (hA m c (ix2 p k)) (aG m c (ix2 0 k)) (aXS m c (ix1 0)) hx0.ne'
  rw [← inv_len, ← Cert.Math.len_val, ← ev, ← Cert.Math.one_val] at key
  exact key

/-- The kernel's codes are the reference's. -/
theorem cA_eq (c : Dev nD) (hx0 : 0 < aXS m c (ix1 0)) : cA m c = cOf (nA m c) (aXS m c) := by
  funext j
  exact congrArg (fun v : EReal => min (Ideal.ofBits .f32 0x43E00000#32) (max (Ideal.ofBits .f32 0xC3E00000#32) v)) (zA_eq m c hx0 (j 0) (j 1))

/-- The kernel's gate is the reference's. -/
theorem gate_eq (g u : Ideal .f32) : gate g u = g * Ideal.logistic g * u := by
  unfold gate
  rw [neg_log, Cert.Math.one_val, Cert.Math.sigmoid]

/-- The kernel's gated hidden array is the reference's. -/
theorem hidA_eq (c : Dev nD) (hx0 : 0 < aXS m c (ix1 0)) : hidA m c = hidOf (cOf (nA m c) (aXS m c)) (aW m c) (aXS m c) (aWS m c) := by
  funext j
  unfold hidA hidOf
  rw [gate_eq, cA_eq m c hx0]

/-- The kernel's codes of the gated hidden array are the reference's. -/
theorem chA_eq (c : Dev nD) (hx0 : 0 < aXS m c (ix1 0)) (hh : aHS m c (ix1 0) ≠ 0) : chA m c = chOf (hidOf (cOf (nA m c) (aXS m c)) (aW m c) (aXS m c) (aWS m c)) (aHS m c) := by
  funext j
  unfold chA chOf
  rw [Cert.Math.one_val, Cert.Math.mul_div_one hh, hidA_eq m c hx0]

/-- The last two outputs are written back after the last point only. -/
theorem flush_last : ∀ t : Fin cfg0.N, (win0_13.flush t = true → t.val % 64 = 63) ∧ (win0_14.flush t = true → t.val % 64 = 63) :=
  (by decide +kernel : ∀ t : Fin grid0.N, _)

/-- The largest magnitude of the normalised array, of the maximum carried over the scale. -/
theorem amax_n (c : Dev nD) (hx0 : 0 < aXS m c (ix1 0)) (hxt : aXS m c (ix1 0) ≠ ⊤) (t : Fin cfg0.N) (ht : t.val % 64 = 63) (y : S1.Idx) :
    k0_pay2 (F := Ideal) (carry0 m c t.val t.isLt) * aXS m c (ix1 0) = amaxN (nA m c) y := by
  refine eq_of_forall_ge_iff fun b => ?_
  rw [← EReal.le_div_iff_mul_le hx0 hxt, pay2_le, carry0_last m c _ t ht]
  unfold amaxN
  rw [Cert.Math.neg_inf_val, Cert.Math.fold_max_le, Prod.forall]
  refine forall_congr' fun p => forall_congr' fun k => ?_
  rw [EReal.le_div_iff_mul_le hx0 hxt, ← Cert.Math.max_neg_mul hx0.le, zA_eq m c hx0, Cert.Math.div_mul_self hx0.ne' hx0 hxt]

/-- The largest magnitude of the gated hidden array. -/
theorem amax_h (c : Dev nD) (hx0 : 0 < aXS m c (ix1 0)) (t : Fin cfg0.N) (ht : t.val % 64 = 63) (y : S1.Idx) :
    k0_pay2 (F := Ideal) (carry1 m c t.val t.isLt) = amaxH (hidOf (cOf (nA m c) (aXS m c)) (aW m c) (aXS m c) (aWS m c)) y := by
  refine eq_of_forall_ge_iff fun b => ?_
  rw [pay2_le, carry1_last m c _ t ht]
  unfold amaxH
  rw [Cert.Math.neg_inf_val, Cert.Math.fold_max_le, Prod.forall, hidA_eq m c hx0]

/-- The scale's block is the scale. -/
theorem xs_at (c : Dev nD) (t : Fin cfg0.N) : iblk m c 2 t (ix1 0) = aXS m c (ix1 0) := by
  blk_point [iblk, V, idx t]

/-- The largest magnitude of the normalised array, after the run. -/
theorem final_13 (c : Dev nD) (hx0 : 0 < aXS m c (ix1 0)) (hxt : aXS m c (ix1 0) ≠ ⊤) : (dats m 0 c).arrAt 13 (cfgs 0).N = amaxN (nA m c) := by
  refine (dats m 0 c).arrAt_eq_of_covers 13 _ (by decide +kernel) fun t hf y => ?_
  have ht : t.val % 64 = 63 := (flush_last t).1 hf
  blk_simp
  rw [after0_13, outsAt0_C m c t (by omega) ht]
  dsimp only
  rw [out0_C_13_eq, pay1_eq, xs_at]
  exact (congrArg (fun v => k0_pay2 (F := Ideal) v * aXS m c (ix1 0)) (carry0_next m c t (by omega)).symm).trans (amax_n m c hx0 hxt t ht _)

/-- The largest magnitude of the gated hidden array, after the run. -/
theorem final_14 (c : Dev nD) (hx0 : 0 < aXS m c (ix1 0)) : (dats m 0 c).arrAt 14 (cfgs 0).N = amaxH (hidOf (cOf (nA m c) (aXS m c)) (aW m c) (aXS m c) (aWS m c)) := by
  refine (dats m 0 c).arrAt_eq_of_covers 14 _ (by decide +kernel) fun t hf y => ?_
  have ht : t.val % 64 = 63 := (flush_last t).2 hf
  blk_simp
  rw [after0_14, outsAt0_C m c t (by omega) ht]
  dsimp only
  rw [out0_C_14_eq]
  exact (congrArg (fun v => k0_pay2 (F := Ideal) v) (carry1_next m c t (by omega)).symm).trans (amax_h m c hx0 t ht _)

end Cert.GuIdeal.Hand
-- ==== Proof.GuClaim.lean ====
/- The claim about the gate and up product: the kernel's arrays and the reference's are equal as extended reals. -/
module

public import proofs.«01_k».proof.Defs
public import proofs.«01_k».proof.Proof.GuEq
public import Idealize.ShloMosaic.Lib.Claim

@[expose] public section

set_option maxRecDepth 16384

noncomputable section

open Idealize.ShloMosaic Idealize.SL.Sem

namespace Cert.GuHand

/-- A conjunction of two bits is one only when both are. -/
theorem and_one {a b : BitVec 1} (h : IntOp.andi a b = 1#1) : a = 1#1 ∧ b = 1#1 := by
  revert a b
  decide

/-- The bit of a truth value is one only when it is true. -/
theorem bit_one {b : Bool} (h : BitVec.ofBool b = 1#1) : b = true := by
  revert b
  decide

/-- The precondition says that the first scale is positive and finite and the second is not zero. -/
theorem scales [Cert.Pre_proper_scales.Facts] {m} (h : Cert.Pre_GuIdeal_proper_scales m) (c : Dev Cert.GuIdeal.nD) :
    0 < Cert.GuIdeal.Hand.aXS m c (ix1 0) ∧ Cert.GuIdeal.Hand.aXS m c (ix1 0) ≠ ⊤ ∧ Cert.GuIdeal.Hand.aHS m c (ix1 0) ≠ 0 := by
  have e := congrFun (h c) (ix1 0)
  unfold Cert.Pre_proper_scales.fn at e
  simp only [andi, cmpf, broadcastInDim, constant] at e
  obtain ⟨e1, e3⟩ := and_one e
  obtain ⟨e1, e2⟩ := and_one e1
  have z : Ideal.ofBits .f32 0x00000000#32 = 0 := by simp
  have i : Ideal.ofBits .f32 0x7F800000#32 = ⊤ := by simp [Ideal.ofBits, Ideal.ieee]
  refine ⟨?_, ?_, ?_⟩
  · have := of_decide_eq_true (bit_one e1)
    rwa [Ideal.ofBits_def, z] at this
  · have := of_decide_eq_true (bit_one e2)
    rw [Ideal.ofBits_def, i] at this
    exact this.ne
  · have := of_decide_eq_true (bit_one e3)
    rwa [Ideal.ofBits_def, z] at this

set_option maxHeartbeats 4000000 in
/-- The gate and up product with the normalisation and the codes: kernel and reference end with the same results. -/
theorem algebraic [Cert.Pre_proper_scales.Facts] : Cert.algebraic_GuIdeal_GuRefIdeal_pre_proper_scales := by
  pair_intro
  · run_from Cert.GuIdeal.Gen.run_main m g
  · run_from Cert.GuRefIdeal.Gen.run_main m' g'
    all_goals
      obtain ⟨h0, h1, h2, h3, h4, h5, h6, h7, h8, h9⟩ := hagree c
      obtain ⟨hx, ht, hh⟩ := scales hpre c
    · rw [Cert.GuRefIdeal.Hand.final_10, Cert.GuIdeal.Hand.final_10, h0, h1, h3, h5, h6]
      rfl
    · rw [Cert.GuRefIdeal.Hand.final_11, Cert.GuIdeal.Hand.final_11, Cert.GuIdeal.Hand.cA_eq m c hx, h0, h1, h3, h5, h6, h2, h7]
      rfl
    · rw [Cert.GuRefIdeal.Hand.final_12, Cert.GuIdeal.Hand.final_12, Cert.GuIdeal.Hand.chA_eq m c hx hh, h0, h1, h3, h5, h6, h2, h4, h7, h8, h9]
      rfl
    · rw [Cert.GuRefIdeal.Hand.final_13, Cert.GuIdeal.Hand.final_13 m c hx ht, h0, h1, h3, h5, h6, h2]
      rfl
    · rw [Cert.GuRefIdeal.Hand.final_14, Cert.GuIdeal.Hand.final_14 m c hx, h0, h1, h3, h5, h6, h2, h4, h7, h8]
      rfl

end Cert.GuHand
-- ==== Proof.QkTile.lean ====
/- One tile of the first normalisation: the sum of squares of a row, its reciprocal root, and the normalised tile. -/
module

public import proofs.«01_k».proof.Proof.Gen.QkvIdeal
public import Idealize.ShloMosaic.Lib.Pipeline.ValueKit
public import Idealize.ShloMosaic.Lib.Pointwise
public import Idealize.ShloMosaic.Lib.KernelVsHost.SublaneAllReduce

@[expose] public section

set_option maxRecDepth 16384

noncomputable section

open Idealize.ShloMosaic Idealize.ShloMosaic.TcCoe Idealize.SL.Sem
open Idealize.ShloMosaic.Pipeline (Dat)

namespace Cert.QkvIdeal.Hand

open Cert.QkvIdeal Cert.QkvIdeal.Gen Idealize.ShloMosaic.SublaneAllReduce

section

variable {F : FTy → Type} [FloatOps F] [Named F]

/-- The squares of a tile. -/
def sq (v : Vec F S128x128 .bf16) : FVec F S128x128 .f32 := mulf (extf .f32 v bitsLt_bf16_f32) (extf .f32 v bitsLt_bf16_f32)

/-- The squares of eight tiles, added from the left. -/
def sq8 (a b c d e f g h : Vec F S128x128 .bf16) : FVec F S128x128 .f32 :=
  addf (addf (addf (addf (addf (addf (addf (sq a) (sq b)) (sq c)) (sq d)) (sq e)) (sq f)) (sq g)) (sq h)

/-- The sixteen groups of eight rows, added from the left. -/
def rows16 (w : FVec F S128x128 .f32) : FVec F S8x128 .f32 :=
  (addf (addf (addf (addf (addf (addf (addf (addf (addf (addf (addf (addf (addf (addf (addf (extractStridedSlice S8x128 ![0, 0] w slices_S128x128_o0_0_S8x128) (extractStridedSlice S8x128 ![8, 0] w slices_S128x128_o8_0_S8x128)) (extractStridedSlice S8x128 ![16, 0] w slices_S128x128_o16_0_S8x128)) (extractStridedSlice S8x128 ![24, 0] w slices_S128x128_o24_0_S8x128)) (extractStridedSlice S8x128 ![32, 0] w slices_S128x128_o32_0_S8x128)) (extractStridedSlice S8x128 ![40, 0] w slices_S128x128_o40_0_S8x128)) (extractStridedSlice S8x128 ![48, 0] w slices_S128x128_o48_0_S8x128)) (extractStridedSlice S8x128 ![56, 0] w slices_S128x128_o56_0_S8x128)) (extractStridedSlice S8x128 ![64, 0] w slices_S128x128_o64_0_S8x128)) (extractStridedSlice S8x128 ![72, 0] w slices_S128x128_o72_0_S8x128)) (extractStridedSlice S8x128 ![80, 0] w slices_S128x128_o80_0_S8x128)) (extractStridedSlice S8x128 ![88, 0] w slices_S128x128_o88_0_S8x128)) (extractStridedSlice S8x128 ![96, 0] w slices_S128x128_o96_0_S8x128)) (extractStridedSlice S8x128 ![104, 0] w slices_S128x128_o104_0_S8x128)) (extractStridedSlice S8x128 ![112, 0] w slices_S128x128_o112_0_S8x128)) (extractStridedSlice S8x128 ![120, 0] w slices_S128x128_o120_0_S8x128))

/-- A block of eight rows and the same rotated by four, added. -/
def rot4 (u : FVec F S8x128 .f32) : FVec F S8x128 .f32 := addf u (dynamicRotate 0 4#32 none u rotates_S8x128_d0)
/-- The same rotated by two. -/
def rot2 (u : FVec F S8x128 .f32) : FVec F S8x128 .f32 := addf u (dynamicRotate 0 2#32 none u rotates_S8x128_d0)
/-- The same rotated by one. -/
def rot1 (u : FVec F S8x128 .f32) : FVec F S8x128 .f32 := addf u (dynamicRotate 0 1#32 none u rotates_S8x128_d0)

/-- The rows of a tile added, the sum in every one of eight rows. -/
def subl (w : FVec F S128x128 .f32) : FVec F S8x128 .f32 := rot1 (rot2 (rot4 (rows16 w)))

/-- A tile transposed. -/
def tr (w : FVec F S128x128 .f32) : FVec F S128x128 .f32 := transpose S128x128 [1, 0] w transposes_S128x128_p1_0_S128x128

/-- One over the root of the mean, laid out along the rows of a tile: every entry of row `r` is that of lane `r`. -/
def invCol (t : FVec F S8x128 .f32) : FVec F S128x128 .f32 :=
  tr (broadcastTo S128x128 (shapeCast S1x128 (extractStridedSlice S1x128 ![0, 0]
    (divf (broadcast S8x128 (Scalar.ofBits .f32 0x3F800000#32 : F .f32)) (sqrt (addf (mulf t (broadcast S8x128 (Named.named κ "inv_d" 0x394CCCCD#32 : F .f32)))
      (broadcast S8x128 (Scalar.ofBits .f32 0x358637BD#32 : F .f32))))) slices_S8x128_o0_0_S1x128) shapeCasts_S1x128_S1x128) broadcasts_S1x128_S128x128)

/-- The normalised tile. -/
def zTile (g : Vec F S1x5120 .f32) (iv : FVec F S128x128 .f32) (r j : ℕ) (hr : S128x128.Slices ![r, 0] S32x128) (hj : S1x5120.Slices ![0, j] S1x128)
    (v : Vec F S32x128 .bf16) : FVec F S32x128 .f32 :=
  mulf (mulf (extf .f32 v bitsLt_bf16_f32) (extractStridedSlice S32x128 ![r, 0] iv hr)) (broadcastTo S32x128 (extractStridedSlice S1x128 ![0, j] g hj) broadcasts_S1x128_S32x128)

/-- The codes of a normalised tile. -/
def cTile (iS : FVec F S1x128 .f32) (z : FVec F S32x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf z (broadcastTo S32x128 iS broadcasts_S1x128_S32x128)))) bitsLt_fp8e4m3_f32

/-- The running maximum after a tile. -/
def mTile (acc : FVec F S8x128 .f32) (z : FVec F S32x128 .f32) : FVec F S8x128 .f32 :=
  maximumf acc (maximumf (maximumf (maximumf (extractStridedSlice S8x128 ![0, 0] (absf z) slices_S32x128_o0_0_S8x128) (extractStridedSlice S8x128 ![8, 0] (absf z) slices_S32x128_o8_0_S8x128))
    (extractStridedSlice S8x128 ![16, 0] (absf z) slices_S32x128_o16_0_S8x128)) (extractStridedSlice S8x128 ![24, 0] (absf z) slices_S32x128_o24_0_S8x128))

/-- The reciprocal of a scale, in every lane. -/
def iS (s : F .f32) : FVec F S1x128 .f32 := divf (broadcast S1x128 (Scalar.ofBits .f32 0x3F800000#32 : F .f32)) (broadcast S1x128 s)

/-- The rows and columns of a square tile lie in the block. -/
theorem inb128 (t j : ℕ) : ∀ a, (![128 * (t % 4), 128 * (j % 40)] : Fin 2 → ℕ) a + S128x128.size a ≤ S512x5120.size a := by
  intro a
  fin_cases a
  · show 128 * (t % 4) + 128 ≤ 512
    omega
  · show 128 * (j % 40) + 128 ≤ 5120
    omega

/-- The rows and columns of a flat tile lie in the block. -/
theorem inb32 (n : ℕ) : ∀ a, (![32 * (n / 40 % 16), 128 * (n % 40)] : Fin 2 → ℕ) a + S32x128.size a ≤ S512x5120.size a := by
  intro a
  fin_cases a
  · show 32 * (n / 40 % 16) + 32 ≤ 512
    omega
  · show 128 * (n % 40) + 128 ≤ 5120
    omega

/-- The rows of a flat tile lie in a square one. -/
theorem slR (n : ℕ) : S128x128.Slices ![32 * (n / 40 % 4), 0] S32x128 := by
  refine ⟨rfl, fun a => ?_⟩
  fin_cases a
  · show 32 * (n / 40 % 4) + 32 ≤ 128
    omega
  · show 0 + 128 ≤ 128
    omega

/-- The lanes of a tile lie in the weights. -/
theorem slJ (n : ℕ) : S1x5120.Slices ![0, 128 * (n % 40)] S1x128 := by
  refine ⟨rfl, fun a => ?_⟩
  fin_cases a
  · show 0 + 1 ≤ 1
    omega
  · show 128 * (n % 40) + 128 ≤ 5120
    omega

/-- A square tile of the block. -/
def ld128 (X : Vec F S512x5120 .bf16) (t j : ℕ) : Vec F S128x128 .bf16 := View.ld X (Rect.unit (s := S512x5120) ![128 * (t % 4), 128 * (j % 40)] S128x128.size (inb128 t j))

/-- A flat tile of the block. -/
def ld32 (X : Vec F S512x5120 .bf16) (n : ℕ) : Vec F S32x128 .bf16 := View.ld X (Rect.unit (s := S512x5120) ![32 * (n / 40 % 16), 128 * (n % 40)] S32x128.size (inb32 n))

/-- The squares of the rows of square tile row `t`, over 1024 columns. -/
def part (X : Vec F S512x5120 .bf16) (t b : ℕ) : FVec F S8x128 .f32 :=
  subl (tr (sq8 (ld128 X t (8 * b)) (ld128 X t (8 * b + 1)) (ld128 X t (8 * b + 2)) (ld128 X t (8 * b + 3)) (ld128 X t (8 * b + 4)) (ld128 X t (8 * b + 5)) (ld128 X t (8 * b + 6)) (ld128 X t (8 * b + 7))))

/-- The squares of the rows of square tile row `t`, over all columns. -/
def tot (X : Vec F S512x5120 .bf16) (t : ℕ) : FVec F S8x128 .f32 := addf (addf (addf (addf (part X t 0) (part X t 1)) (part X t 2)) (part X t 3)) (part X t 4)

/-- The normalised flat tile `n` of the block. -/
def zAt (g : Vec F S1x5120 .f32) (X : Vec F S512x5120 .bf16) (n : ℕ) : FVec F S32x128 .f32 :=
  zTile g (invCol (tot X (n / 160 % 4))) (32 * (n / 40 % 4)) (128 * (n % 40)) (slR n) (slJ n) (ld32 X n)

/-- The codes of the first `n` flat tiles, the last first. -/
def pcs (g : Vec F S1x5120 .f32) (iv : FVec F S1x128 .f32) (X : Vec F S512x5120 .bf16) (n : ℕ) : List (View.Piece (Elt F) S512x5120 .fp8e4m3) :=
  Nat.rec [] (fun n l => ⟨Rect.unit (s := S512x5120) ![32 * (n / 40 % 16), 128 * (n % 40)] S32x128.size (inb32 n), cTile iv (zAt g X n)⟩ :: l) n

/-- The running maximum after the first `n` flat tiles. -/
def mAt (g : Vec F S1x5120 .f32) (X : Vec F S512x5120 .bf16) (acc : FVec F S8x128 .f32) (n : ℕ) : FVec F S8x128 .f32 :=
  Nat.rec acc (fun n a => mTile a (zAt g X n)) n

end

/-- The squares of eight tiles, at an index. -/
theorem sq8_apply (a b c d e f g h : Vec Ideal S128x128 .bf16) (i : Fin 128) (l : Fin 128) :
    sq8 a b c d e f g h (ix2 i l) = (a (ix2 i l) * a (ix2 i l) + b (ix2 i l) * b (ix2 i l) + c (ix2 i l) * c (ix2 i l) + d (ix2 i l) * d (ix2 i l)
      + e (ix2 i l) * e (ix2 i l) + f (ix2 i l) * f (ix2 i l) + g (ix2 i l) * g (ix2 i l) + h (ix2 i l) * h (ix2 i l) : EReal) := by
  unfold sq8 sq
  pointwise

/-- The sixteen groups of eight rows, at an index. -/
theorem rows16_apply (w : FVec Ideal S128x128 .f32) (i : Fin 8) (l : Fin 128) :
    rows16 w (ix2 i l) = ∑ b : Fin 16, (w (ix2 ⟨b.val * 8 + i.val, by omega⟩ l) : EReal) := by
  unfold rows16
  pointwise
  simp only [Fin.sum_univ_castSucc, Fin.sum_univ_zero, Fin.val_castSucc, Fin.val_last, Nat.reduceMul, Nat.zero_mul, zero_add]

/-- The three rotations add the eight rows. -/
theorem rots_apply (u : FVec Ideal S8x128 .f32) (i : Fin 8) (l : Fin 128) : rot1 (rot2 (rot4 u)) (ix2 i l) = ∑ s : Fin 8, (u (ix2 s l) : EReal) := by
  have hb := sublaneAllReduce_apply (α := Ideal .f32) (fun a b : EReal => a + b) (rotates_S8x128_d0) u i l
  refine hb.trans ?_
  unfold combine8
  simp only [Fin.sum_univ_succ, Fin.sum_univ_zero]
  show _ = (u (ix2 0 l) + (u (ix2 1 l) + (u (ix2 2 l) + (u (ix2 3 l) + (u (ix2 4 l) + (u (ix2 5 l) + (u (ix2 6 l) + (u (ix2 7 l) + 0))))))) : EReal)
  rw [add_zero]
  ac_rfl

/-- The rows of a tile added. -/
theorem subl_apply (w : FVec Ideal S128x128 .f32) (i : Fin 8) (l : Fin 128) : subl w (ix2 i l) = ∑ r : Fin 128, (w (ix2 r l) : EReal) := by
  unfold subl
  rw [rots_apply, Fin.sum_univ_tiles 16 8 rfl (fun r : Fin 128 => (w (ix2 r l) : EReal)), Finset.sum_comm]
  refine Finset.sum_congr rfl fun s _ => ?_
  rw [rows16_apply]

/-- A tile transposed, at an index. -/
theorem tr_apply (w : FVec Ideal S128x128 .f32) (i l : Fin 128) : tr w (ix2 i l) = w (ix2 l i) := by
  unfold tr
  pointwise

/-- The reciprocal root, at an index. -/
theorem invCol_apply (t : FVec Ideal S8x128 .f32) (i l : Fin 128) :
    invCol t (ix2 i l) = Ideal.div (Ideal.ofBits .f32 0x3F800000#32) (Ideal.sqrt (t (ix2 0 i) * (Named.named κ "inv_d" 0x394CCCCD#32 : Ideal .f32) + Ideal.ofBits .f32 0x358637BD#32)) := by
  unfold invCol
  rw [tr_apply]
  pointwise

/-- The normalised tile, at an index. -/
theorem zTile_apply (g : Vec Ideal S1x5120 .f32) (iv : FVec Ideal S128x128 .f32) (r j : ℕ) (hr) (hj) (v : Vec Ideal S32x128 .bf16) (i : Fin 32) (l : Fin 128)
    (h1 : r + i.val < 128) (h2 : j + l.val < 5120) :
    zTile g iv r j hr hj v (ix2 i l) = (v (ix2 i l) * iv (ix2 ⟨r + i.val, h1⟩ l) * g (ix2 0 ⟨j + l.val, h2⟩) : EReal) := by
  unfold zTile
  pointwise

/-- The codes of a tile, at an index. -/
theorem cTile_apply (iS : FVec Ideal S1x128 .f32) (z : FVec Ideal S32x128 .f32) (i : Fin 32) (l : Fin 128) :
    cTile iS z (ix2 i l) = min (Ideal.ofBits .f32 0x43E00000#32) (max (Ideal.ofBits .f32 0xC3E00000#32) (z (ix2 i l) * iS (ix2 0 l) : EReal)) := by
  unfold cTile
  pointwise

/-- The magnitude of a value. -/
theorem abs_val (x : Ideal .f32) : FloatOps.absf x = (max x (-x) : EReal) := rfl

/-- The running maximum after a tile, by its upper bounds. -/
theorem mTile_le (acc : FVec Ideal S8x128 .f32) (z : FVec Ideal S32x128 .f32) (c : EReal) :
    (∀ i l, (mTile acc z (ix2 i l) : EReal) ≤ c) ↔ (∀ i l, (acc (ix2 i l) : EReal) ≤ c) ∧ ∀ i l, max (z (ix2 i l)) (-(z (ix2 i l))) ≤ c := by
  have e : ∀ i l, (mTile acc z (ix2 i l) : EReal) ≤ c ↔ (acc (ix2 i l) : EReal) ≤ c ∧ ∀ b : Fin 4, max (z (ix2 ⟨8 * b.val + i.val, by omega⟩ l)) (-(z (ix2 ⟨8 * b.val + i.val, by omega⟩ l))) ≤ c := by
    intro i l
    unfold mTile
    pointwise
    simp only [abs_val]
    simp only [max_le_iff, Fin.forall_fin_succ, Fin.val_succ, Fin.val_zero, Nat.reduceMul, Nat.reduceAdd, Nat.mul_zero, zero_add, and_assoc, IsEmpty.forall_iff, and_true]
  simp only [e]
  constructor
  · intro h
    refine ⟨fun i l => (h i l).1, fun i l => ?_⟩
    have := (h ⟨i.val % 8, by omega⟩ l).2 ⟨i.val / 8, by omega⟩
    have hi : (⟨8 * (i.val / 8) + i.val % 8, by omega⟩ : Fin 32) = i := Fin.ext (by simp only []; omega)
    simp only [hi] at this
    exact this
  · exact fun h i l => ⟨h.1 i l, fun b => h.2 _ l⟩

end Cert.QkvIdeal.Hand
-- ==== Proof.QkBlk.lean ====
/- The tiles of a block of rows: the codes they leave, and the running maximum after them. -/
module

public import proofs.«01_k».proof.Proof.QkTile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Hand

open Cert.QkvIdeal Cert.QkvIdeal.Gen

/-- The normalised block, at an index. -/
def zVec (g : Vec Ideal S1x5120 .f32) (X : Vec Ideal S512x5120 .bf16) : FVec Ideal S512x5120 .f32 := fun y =>
  X (ix2 (y 0) (y 1)) * Ideal.div (Ideal.ofBits .f32 0x3F800000#32) (Ideal.sqrt ((∑ k : Fin 5120, X (ix2 (y 0) k) * X (ix2 (y 0) k))
    * (Named.named κ "inv_d" 0x394CCCCD#32 : Ideal .f32) + Ideal.ofBits .f32 0x358637BD#32)) * g (ix2 0 (y 1))

/-- The codes of the block, at an index. -/
def cVec (g : Vec Ideal S1x5120 .f32) (s : Ideal .f32) (X : Vec Ideal S512x5120 .bf16) : FVec Ideal S512x5120 .fp8e4m3 := fun y =>
  min (Ideal.ofBits .f32 0x43E00000#32) (max (Ideal.ofBits .f32 0xC3E00000#32) (zVec g X y * Ideal.div (Ideal.ofBits .f32 0x3F800000#32) s))

/-- A square tile, at an index. -/
theorem ld128_apply (X : Vec Ideal S512x5120 .bf16) (t j : ℕ) (i l : Fin 128) :
    ld128 X t j (ix2 i l) = X (ix2 ⟨128 * (t % 4) + i.val, by omega⟩ ⟨128 * (j % 40) + l.val, by omega⟩) := by
  unfold ld128 View.ld
  blk_point []
  · show 128 * (t % 4) + 1 * i.val = 128 * (t % 4) + i.val
    omega
  · show 128 * (j % 40) + 1 * l.val = 128 * (j % 40) + l.val
    omega

/-- A flat tile, at an index. -/
theorem ld32_apply (X : Vec Ideal S512x5120 .bf16) (n : ℕ) (i : Fin 32) (l : Fin 128) :
    ld32 X n (ix2 i l) = X (ix2 ⟨32 * (n / 40 % 16) + i.val, by omega⟩ ⟨128 * (n % 40) + l.val, by omega⟩) := by
  unfold ld32 View.ld
  blk_point []
  · show 32 * (n / 40 % 16) + 1 * i.val = 32 * (n / 40 % 16) + i.val
    omega
  · show 128 * (n % 40) + 1 * l.val = 128 * (n % 40) + l.val
    omega

/-- The squares over 1024 columns. -/
theorem part_apply (X : Vec Ideal S512x5120 .bf16) (t : ℕ) (b : Fin 5) (i : Fin 8) (l : Fin 128) :
    part X t b.val (ix2 i l) = ∑ c : Fin 8, ∑ r : Fin 128, (X (ix2 ⟨128 * (t % 4) + l.val, by omega⟩ ⟨(b.val * 8 + c.val) * 128 + r.val, by omega⟩)
      * X (ix2 ⟨128 * (t % 4) + l.val, by omega⟩ ⟨(b.val * 8 + c.val) * 128 + r.val, by omega⟩) : EReal) := by
  have e : ∀ (c : Fin 8) (r : Fin 128), ld128 X t (8 * b.val + c.val) (ix2 l r) = X (ix2 ⟨128 * (t % 4) + l.val, by omega⟩ ⟨(b.val * 8 + c.val) * 128 + r.val, by omega⟩) := by
    intro c r
    rw [ld128_apply]
    congr 2
    exact Fin.ext (by show 128 * ((8 * b.val + c.val) % 40) + r.val = (b.val * 8 + c.val) * 128 + r.val; omega)
  simp only [← e]
  rw [Finset.sum_comm]
  unfold part
  rw [subl_apply]
  refine Finset.sum_congr rfl fun r _ => ?_
  rw [tr_apply, sq8_apply]
  simp only [Fin.sum_univ_castSucc, Fin.sum_univ_zero, Fin.val_castSucc, Fin.val_last, zero_add, Nat.add_zero]

/-- The squares over all columns. -/
theorem tot_apply (X : Vec Ideal S512x5120 .bf16) (t : ℕ) (i : Fin 8) (l : Fin 128) :
    tot X t (ix2 i l) = ∑ k : Fin 5120, (X (ix2 ⟨128 * (t % 4) + l.val, by omega⟩ k) * X (ix2 ⟨128 * (t % 4) + l.val, by omega⟩ k) : EReal) := by
  rw [Fin.sum_univ_tiles 40 128 rfl (fun k : Fin 5120 => (X (ix2 ⟨128 * (t % 4) + l.val, by omega⟩ k) * X (ix2 ⟨128 * (t % 4) + l.val, by omega⟩ k) : EReal)),
    Fin.sum_univ_tiles 5 8 rfl (fun j : Fin 40 => ∑ r : Fin 128, (X (ix2 ⟨128 * (t % 4) + l.val, by omega⟩ ⟨j.val * 128 + r.val, by omega⟩) * X (ix2 ⟨128 * (t % 4) + l.val, by omega⟩ ⟨j.val * 128 + r.val, by omega⟩) : EReal))]
  refine Eq.trans ?_ (Finset.sum_congr rfl fun b _ => part_apply X t b i l)
  simp only [Fin.sum_univ_castSucc, Fin.sum_univ_zero, Fin.val_castSucc, Fin.val_last, zero_add]
  rfl

/-- A normalised tile is its part of the normalised block. -/
theorem zAt_apply (g : Vec Ideal S1x5120 .f32) (X : Vec Ideal S512x5120 .bf16) (n : ℕ) (i : Fin 32) (l : Fin 128) :
    zAt g X n (ix2 i l) = zVec g X (ix2 ⟨32 * (n / 40 % 16) + i.val, by omega⟩ ⟨128 * (n % 40) + l.val, by omega⟩) := by
  unfold zAt
  rw [zTile_apply g _ _ _ _ _ _ i l (by omega) (by omega), ld32_apply, invCol_apply, tot_apply]
  have e : (⟨128 * (n / 160 % 4 % 4) + (32 * (n / 40 % 4) + i.val), by omega⟩ : Fin 512) = ⟨32 * (n / 40 % 16) + i.val, by omega⟩ := Fin.ext (by simp only []; omega)
  unfold zVec
  simp only [e]
  rfl

/-- The codes left by every tile are their part of the codes of the block. -/
theorem pcs_at (g : Vec Ideal S1x5120 .f32) (s : Ideal .f32) (X : Vec Ideal S512x5120 .bf16) (n : ℕ) :
    ∀ p ∈ pcs g (iS s) X n, ∀ x : p.1.shape.Idx, p.2 x = cVec g s X (p.1.emb x) := by
  induction n with
  | zero =>
    intro p hp
    exact absurd hp List.not_mem_nil
  | succ n ih =>
    intro p hp x
    rcases List.mem_cons.mp hp with rfl | hp
    · obtain ⟨i, l, rfl⟩ : ∃ (i : Fin 32) (l : Fin 128), x = ix2 i l := ⟨x 0, x 1, eq_ix2 x⟩
      have e : (Rect.unit (s := S512x5120) ![32 * (n / 40 % 16), 128 * (n % 40)] S32x128.size (inb32 n)).emb (ix2 i l)
          = ix2 ⟨32 * (n / 40 % 16) + i.val, by omega⟩ ⟨128 * (n % 40) + l.val, by omega⟩ := by
        funext a
        refine Fin.ext ?_
        fin_cases a
        · show 32 * (n / 40 % 16) + 1 * i.val = 32 * (n / 40 % 16) + i.val
          omega
        · show 128 * (n % 40) + 1 * l.val = 128 * (n % 40) + l.val
          omega
      refine Eq.trans ?_ (congrArg (cVec g s X) e.symm)
      refine (cTile_apply (iS s) (zAt g X n) i l).trans ?_
      rw [zAt_apply]
      rfl
    · exact ih p hp x

/-- The upper bounds of the running maximum. -/
theorem mAt_le (g : Vec Ideal S1x5120 .f32) (X : Vec Ideal S512x5120 .bf16) (acc : FVec Ideal S8x128 .f32) (c : EReal) (n : ℕ) :
    (∀ i l, (mAt g X acc n (ix2 i l) : EReal) ≤ c)
      ↔ (∀ i l, (acc (ix2 i l) : EReal) ≤ c) ∧ ∀ k < n, ∀ (i : Fin 32) (l : Fin 128), max (zAt g X k (ix2 i l)) (-(zAt g X k (ix2 i l))) ≤ c := by
  induction n with
  | zero => exact ⟨fun h => ⟨h, fun k hk => absurd hk (Nat.not_lt_zero k)⟩, fun h => h.1⟩
  | succ n ih =>
    refine (mTile_le (mAt g X acc n) (zAt g X n) c).trans ?_
    rw [ih, and_assoc]
    refine and_congr_right fun _ => ⟨fun h k hk => ?_, fun h => ⟨fun k hk => h k (Nat.lt_succ_of_lt hk), h n (Nat.lt_succ_self n)⟩⟩
    rcases Nat.lt_succ_iff_lt_or_eq.mp hk with hk | rfl
    · exact h.1 k hk
    · exact h.2

/-- The upper bounds of the running maximum after all the tiles. -/
theorem mAll_le (g : Vec Ideal S1x5120 .f32) (X : Vec Ideal S512x5120 .bf16) (acc : FVec Ideal S8x128 .f32) (c : EReal) :
    (∀ i l, (mAt g X acc 640 (ix2 i l) : EReal) ≤ c)
      ↔ (∀ i l, (acc (ix2 i l) : EReal) ≤ c) ∧ ∀ (i : Fin 512) (k : Fin 5120), max (zVec g X (ix2 i k)) (-(zVec g X (ix2 i k))) ≤ c := by
  rw [mAt_le]
  refine and_congr_right fun _ => ?_
  simp only [zAt_apply]
  constructor
  · intro h i k
    have := h (i.val / 32 * 40 + k.val / 128) (by omega) ⟨i.val % 32, by omega⟩ ⟨k.val % 128, by omega⟩
    have e0 : (⟨32 * ((i.val / 32 * 40 + k.val / 128) / 40 % 16) + i.val % 32, by omega⟩ : Fin 512) = i := Fin.ext (by simp only []; omega)
    have e1 : (⟨128 * ((i.val / 32 * 40 + k.val / 128) % 40) + k.val % 128, by omega⟩ : Fin 5120) = k := Fin.ext (by simp only []; omega)
    simpa only [e0, e1] using this
  · exact fun h k _ i l => h _ _

end Cert.QkvIdeal.Hand
-- ==== Proof.QkRead.lean ====
/- What the run reads of its buffers. -/
module

public import proofs.«01_k».proof.Proof.QkTile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Hand

open Cert.QkvIdeal Cert.QkvIdeal.Gen

variable {F : FTy → Type} [FloatOps F] [Named F]

/-- The whole of an eight-row block. -/
abbrev R8 : Rect S8x128 := Rect.unit (s := S8x128) ![0, 0] S8x128.size inb_S8x128_S8x128_0_0

/-- The input block, out of its buffer. -/
def rdX (M : Memref sig .tc .vmem S512x5120 .bf16) (h : M.IsWhole) (x : Vec F S512x5120 .bf16) : Vec F S512x5120 .bf16 := M.view.read (Elt F) (h.unread x)

/-- The weights, out of their buffer. -/
def rdG (M : Memref sig .tc .vmem S1x5120 .f32) (h : M.IsWhole) (x : Vec F S1x5120 .f32) : Vec F S1x5120 .f32 :=
  View.readAt (Elt F) M.view (Rect.unit (s := S1x5120) ![0, 0] S1x5120.size inb_S1x5120_S1x5120_0_0).toLoadRect (h.unread x)

/-- The scale, out of its buffer. -/
def rdS (M : Memref sig .tc .smem S1 .f32) (h : M.IsWhole) (x : Vec F S1 .f32) : F .f32 :=
  View.readAt (Elt F) M.view (Rect.unit (s := S1) ![0] S1.size inb_S1_S1_0).toLoadRect (h.unread x) (Shape.Idx.first (by decide))

/-- The carried maximum, out of its buffer. -/
def rdA (M : Memref sig .tc .vmem S8x128 .f32) (h : M.IsWhole) (x : Vec F S8x128 .f32) : Vec F S8x128 .f32 :=
  View.readAt (Elt F) M.view R8.toLoadRect (h.unread x)

/-- A maximum just stored, out of its buffer. -/
def rdC (M : Memref sig .tc .vmem S8x128 .f32) (x : Vec F S8x128 .f32) (L : List (View.Piece (Elt F) S8x128 .f32)) : Vec F S8x128 .f32 :=
  M.view.readCov (⟨R8, x⟩ :: L) R8.toLoadRect

theorem rdX_eq (M) (h) (x : Vec F S512x5120 .bf16) : rdX M h x = x := h.read_unread x

theorem rdG_eq (M) (h) (x : Vec F S1x5120 .f32) : rdG M h x = x := by
  funext y
  unfold rdG
  rw [View.readAt_apply, h.read_unread]
  refine congrArg x (funext fun a => Fin.ext ?_)
  fin_cases a
  · show 0 + 1 * (y 0).val = (y 0).val
    omega
  · show 0 + 1 * (y 1).val = (y 1).val
    omega

theorem rdS_eq (M) (h) (x : Vec F S1 .f32) : rdS M h x = x (ix1 0) := by
  unfold rdS
  rw [View.readAt_apply, h.read_unread]
  exact congrArg x (funext fun a => Fin.ext (by fin_cases a; rfl))

theorem rdA_eq (M) (h) (x : Vec F S8x128 .f32) : rdA M h x = x := by
  funext y
  unfold rdA
  rw [View.readAt_apply, h.read_unread]
  refine congrArg x (funext fun a => Fin.ext ?_)
  fin_cases a
  · show 0 + 1 * (y 0).val = (y 0).val
    omega
  · show 0 + 1 * (y 1).val = (y 1).val
    omega

theorem rdC_eq (M) (x : Vec F S8x128 .f32) (L) : rdC M x L = x := by
  unfold rdC
  rw [View.readCov_eq_canon']
  funext y
  exact View.canon_cons_emb R8 x L y

end Cert.QkvIdeal.Hand
-- ==== Proof.QkRunA.lean ====
/- The tiles case A stores: the codes, and the maximum it carries on. -/
module

public import proofs.«01_k».proof.Proof.QkRead
public import proofs.«01_k».proof.Proof.Gen.QkvIdeal.Frame.RunA
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Hand

open Cert.QkvIdeal Cert.QkvIdeal.Gen

set_option maxHeartbeats 4000000

variable {F : FTy → Type} [FloatOps F] [Named F]

/-- The codes stored. -/
theorem runA_13 (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : cond0_0 i) (hc1 : ¬cond0_1 i)
    (x0 : Vec F S1 .f32) (x1 : Vec F S1 .f32) (x2 : Vec F S8 .f32) (x3 : Vec F S1 .f32) (x4 : Vec F S1 .f32) (x5 : Vec F S512x5120 .bf16) (x6 : Vec F S1x5120 .f32) (x7 : Vec F S1x128 .f32) (x8 : Vec F S1x128 .f32) (x9 : Vec F S1x512x64 .f32) (x10 : Vec F S1x512x64 .f32) (x11 : Vec F S1x1x512 .f32) (x12 : Vec F S5120x1280 .fp8e4m3) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12).1 = pcs x6 (iS (x0 (ix1 0))) x5 640 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12).1
      = pcs (rdG arg7 harg7 x6) (iS (rdS arg1 harg1 x0)) (rdX arg6 harg6 x5) 640 := by
    unfold kernelRun0_A
    dsimp only
    unfold kernelRun0_A.sl.H13_640
    rfl
  rw [e, rdG_eq, rdS_eq, rdX_eq]

/-- The maximum stored. -/
theorem runA_s0 (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : cond0_0 i) (hc1 : ¬cond0_1 i)
    (x0 : Vec F S1 .f32) (x1 : Vec F S1 .f32) (x2 : Vec F S8 .f32) (x3 : Vec F S1 .f32) (x4 : Vec F S1 .f32) (x5 : Vec F S512x5120 .bf16) (x6 : Vec F S1x5120 .f32) (x7 : Vec F S1x128 .f32) (x8 : Vec F S1x128 .f32) (x9 : Vec F S1x512x64 .f32) (x10 : Vec F S1x512x64 .f32) (x11 : Vec F S1x1x512 .f32) (x12 : Vec F S5120x1280 .fp8e4m3) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12).2.2.2.2.2.2.2.2.1 = [⟨R8, shapeCast S8x128 (mAt x6 x5 k0_pay15 640) shapeCasts_S8x128_S8x128⟩, ⟨R8, k0_pay15⟩] := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12).2.2.2.2.2.2.2.2.1
      = [⟨R8, shapeCast S8x128 (mAt (rdG arg7 harg7 x6) (rdX arg6 harg6 x5) (rdC arg22 k0_pay15 []) 640) shapeCasts_S8x128_S8x128⟩, ⟨R8, k0_pay15⟩] := by
    unfold kernelRun0_A
    dsimp only
    rfl
  rw [e, rdG_eq, rdC_eq, rdX_eq]

end Cert.QkvIdeal.Hand
-- ==== Proof.QkRunB.lean ====
/- The tiles case B stores: the codes, and the maximum it carries on. -/
module

public import proofs.«01_k».proof.Proof.QkRead
public import proofs.«01_k».proof.Proof.Gen.QkvIdeal.Frame.RunB
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Hand

open Cert.QkvIdeal Cert.QkvIdeal.Gen

set_option maxHeartbeats 4000000

variable {F : FTy → Type} [FloatOps F] [Named F]

/-- The codes stored. -/
theorem runB_13 (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : ¬cond0_0 i) (hc1 : ¬cond0_1 i)
    (x0 : Vec F S1 .f32) (x1 : Vec F S1 .f32) (x2 : Vec F S8 .f32) (x3 : Vec F S1 .f32) (x4 : Vec F S1 .f32) (x5 : Vec F S512x5120 .bf16) (x6 : Vec F S1x5120 .f32) (x7 : Vec F S1x128 .f32) (x8 : Vec F S1x128 .f32) (x9 : Vec F S1x512x64 .f32) (x10 : Vec F S1x512x64 .f32) (x11 : Vec F S1x1x512 .f32) (x12 : Vec F S5120x1280 .fp8e4m3) (xs0 : Vec F S8x128 .f32) (xs1 : Vec F S10x8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1).1 = pcs x6 (iS (x0 (ix1 0))) x5 640 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1).1
      = pcs (rdG arg7 harg7 x6) (iS (rdS arg1 harg1 x0)) (rdX arg6 harg6 x5) 640 := by
    unfold kernelRun0_B
    dsimp only
    unfold kernelRun0_B.sl.H13_640
    rfl
  rw [e, rdG_eq, rdS_eq, rdX_eq]

/-- The maximum stored. -/
theorem runB_s0 (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : ¬cond0_0 i) (hc1 : ¬cond0_1 i)
    (x0 : Vec F S1 .f32) (x1 : Vec F S1 .f32) (x2 : Vec F S8 .f32) (x3 : Vec F S1 .f32) (x4 : Vec F S1 .f32) (x5 : Vec F S512x5120 .bf16) (x6 : Vec F S1x5120 .f32) (x7 : Vec F S1x128 .f32) (x8 : Vec F S1x128 .f32) (x9 : Vec F S1x512x64 .f32) (x10 : Vec F S1x512x64 .f32) (x11 : Vec F S1x1x512 .f32) (x12 : Vec F S5120x1280 .fp8e4m3) (xs0 : Vec F S8x128 .f32) (xs1 : Vec F S10x8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1).2.2.2.2.2.2.2.2.1 = [⟨R8, shapeCast S8x128 (mAt x6 x5 xs0 640) shapeCasts_S8x128_S8x128⟩] := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1).2.2.2.2.2.2.2.2.1
      = [⟨R8, shapeCast S8x128 (mAt (rdG arg7 harg7 x6) (rdX arg6 harg6 x5) (rdA arg22 harg22 xs0) 640) shapeCasts_S8x128_S8x128⟩] := by
    unfold kernelRun0_B
    dsimp only
    rfl
  rw [e, rdG_eq, rdA_eq, rdX_eq]

end Cert.QkvIdeal.Hand
-- ==== Proof.QkRunC.lean ====
/- The tiles case C stores: the codes, and the maximum it carries on. -/
module

public import proofs.«01_k».proof.Proof.QkRead
public import proofs.«01_k».proof.Proof.Gen.QkvIdeal.Frame.RunC
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Hand

open Cert.QkvIdeal Cert.QkvIdeal.Gen

set_option maxHeartbeats 4000000

variable {F : FTy → Type} [FloatOps F] [Named F]

/-- The codes stored. -/
theorem runC_13 (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : ¬cond0_0 i) (hc1 : cond0_1 i)
    (x0 : Vec F S1 .f32) (x1 : Vec F S1 .f32) (x2 : Vec F S8 .f32) (x3 : Vec F S1 .f32) (x4 : Vec F S1 .f32) (x5 : Vec F S512x5120 .bf16) (x6 : Vec F S1x5120 .f32) (x7 : Vec F S1x128 .f32) (x8 : Vec F S1x128 .f32) (x9 : Vec F S1x512x64 .f32) (x10 : Vec F S1x512x64 .f32) (x11 : Vec F S1x1x512 .f32) (x12 : Vec F S5120x1280 .fp8e4m3) (xs0 : Vec F S8x128 .f32) (xs1 : Vec F S10x8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1).1 = pcs x6 (iS (x0 (ix1 0))) x5 640 := by
  have e : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1).1
      = pcs (rdG arg7 harg7 x6) (iS (rdS arg1 harg1 x0)) (rdX arg6 harg6 x5) 640 := by
    unfold kernelRun0_C
    dsimp only
    unfold kernelRun0_C.sl.H13_640
    rfl
  rw [e, rdG_eq, rdS_eq, rdX_eq]

/-- The maximum stored. -/
theorem runC_s0 (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : ¬cond0_0 i) (hc1 : cond0_1 i)
    (x0 : Vec F S1 .f32) (x1 : Vec F S1 .f32) (x2 : Vec F S8 .f32) (x3 : Vec F S1 .f32) (x4 : Vec F S1 .f32) (x5 : Vec F S512x5120 .bf16) (x6 : Vec F S1x5120 .f32) (x7 : Vec F S1x128 .f32) (x8 : Vec F S1x128 .f32) (x9 : Vec F S1x512x64 .f32) (x10 : Vec F S1x512x64 .f32) (x11 : Vec F S1x1x512 .f32) (x12 : Vec F S5120x1280 .fp8e4m3) (xs0 : Vec F S8x128 .f32) (xs1 : Vec F S10x8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1).2.2.2.2.2.2.2.2.1 = [⟨R8, shapeCast S8x128 (mAt x6 x5 xs0 640) shapeCasts_S8x128_S8x128⟩] := by
  have e : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1).2.2.2.2.2.2.2.2.1
      = [⟨R8, shapeCast S8x128 (mAt (rdG arg7 harg7 x6) (rdX arg6 harg6 x5) (rdA arg22 harg22 xs0) 640) shapeCasts_S8x128_S8x128⟩] := by
    unfold kernelRun0_C
    dsimp only
    rfl
  rw [e, rdG_eq, rdA_eq, rdX_eq]

/-- The largest of the maximum, stored at the end. -/
theorem runC_17 (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : ¬cond0_0 i) (hc1 : cond0_1 i)
    (x0 : Vec F S1 .f32) (x1 : Vec F S1 .f32) (x2 : Vec F S8 .f32) (x3 : Vec F S1 .f32) (x4 : Vec F S1 .f32) (x5 : Vec F S512x5120 .bf16) (x6 : Vec F S1x5120 .f32) (x7 : Vec F S1x128 .f32) (x8 : Vec F S1x128 .f32) (x9 : Vec F S1x512x64 .f32) (x10 : Vec F S1x512x64 .f32) (x11 : Vec F S1x1x512 .f32) (x12 : Vec F S5120x1280 .fp8e4m3) (xs0 : Vec F S8x128 .f32) (xs1 : Vec F S10x8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1).2.2.2.2.1 = [⟨Rect.unit (s := S1) ![0] S1.size inb_S1_S1_0, fun _ => k0_pay5 (mAt x6 x5 xs0 640)⟩] := by
  have e : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1).2.2.2.2.1
      = [⟨Rect.unit (s := S1) ![0] S1.size inb_S1_S1_0, fun _ => k0_pay5 (rdC arg22 (shapeCast S8x128 (mAt (rdG arg7 harg7 x6) (rdX arg6 harg6 x5) (rdA arg22 harg22 xs0) 640) shapeCasts_S8x128_S8x128) [])⟩] := by
    unfold kernelRun0_C
    dsimp only
    rfl
  rw [e, rdC_eq, rdG_eq, rdA_eq, rdX_eq, shapeCast_self]

end Cert.QkvIdeal.Hand
-- ==== Proof.QkKer.lean ====
/- What a grid point leaves in its codes and in the maximum it carries, in its three cases. -/
module

public import proofs.«01_k».proof.Proof.QkBlk
public import proofs.«01_k».proof.Proof.QkRunA
public import proofs.«01_k».proof.Proof.QkRunB
public import proofs.«01_k».proof.Proof.QkRunC
public import proofs.«01_k».proof.Proof.Gen.QkvIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Hand

open Cert.QkvIdeal Cert.QkvIdeal.Gen

/-- The block of zeros the carried maximum starts from. -/
def zero8 : FVec Ideal S8x128 .f32 := k0_pay15

theorem zero8_at (i : Fin 8) (l : Fin 128) : zero8 (ix2 i l) = (0 : EReal) := by
  pointwise [zero8, k0_pay15]

/-- A whole block stored last is what the buffer holds. -/
theorem canon8 (x : FVec Ideal S8x128 .f32) (L : List (View.Piece (Elt Ideal) S8x128 .f32)) : View.canon (⟨R8, x⟩ :: L) = x := by
  refine View.canon_cons_unit_zero ?_ _ x L
  funext a
  fin_cases a <;> rfl

/-- A word stored is what its buffer holds. -/
theorem canon1 (x : FVec Ideal S1 .f32) : View.canon [(⟨Rect.unit (s := S1) ![0] S1.size inb_S1_S1_0, x⟩ : View.Piece (Elt Ideal) S1 .f32)] = x := by
  refine View.canon_cons_unit_zero (Val := Elt Ideal) (S := S1) (e := .f32) (off := ![0]) ?_ _ x []
  funext a
  fin_cases a
  rfl

/-- The codes left by a point (case A). -/
theorem out0_A_13_eq (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : cond0_0 i) (hc1 : ¬cond0_1 i)
    (x0 : Vec Ideal S1 .f32) (x1 : Vec Ideal S1 .f32) (x2 : Vec Ideal S8 .f32) (x3 : Vec Ideal S1 .f32) (x4 : Vec Ideal S1 .f32) (x5 : Vec Ideal S512x5120 .bf16) (x6 : Vec Ideal S1x5120 .f32) (x7 : Vec Ideal S1x128 .f32) (x8 : Vec Ideal S1x128 .f32) (x9 : Vec Ideal S1x512x64 .f32) (x10 : Vec Ideal S1x512x64 .f32) (x11 : Vec Ideal S1x1x512 .f32) (x12 : Vec Ideal S5120x1280 .fp8e4m3) (y : S512x5120.Idx) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 y = cVec x6 (x0 (ix1 0)) x5 y := by
  have hc := cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 y
  unfold out0_A_13
  rw [View.read_writes_junk_eq_canon]
  rw [runA_13] at hc ⊢
  exact View.canon_apply_of_pieces (cVec x6 (x0 (ix1 0)) x5) _ (pcs_at x6 (x0 (ix1 0)) x5 640) y hc

/-- The maximum carried on by a point (case A). -/
theorem sout0_A_0_eq (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : cond0_0 i) (hc1 : ¬cond0_1 i)
    (x0 : Vec Ideal S1 .f32) (x1 : Vec Ideal S1 .f32) (x2 : Vec Ideal S8 .f32) (x3 : Vec Ideal S1 .f32) (x4 : Vec Ideal S1 .f32) (x5 : Vec Ideal S512x5120 .bf16) (x6 : Vec Ideal S1x5120 .f32) (x7 : Vec Ideal S1x128 .f32) (x8 : Vec Ideal S1x128 .f32) (x9 : Vec Ideal S1x512x64 .f32) (x10 : Vec Ideal S1x512x64 .f32) (x11 : Vec Ideal S1x1x512 .f32) (x12 : Vec Ideal S5120x1280 .fp8e4m3) (y : S8x128.Idx) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 y = mAt x6 x5 zero8 640 y := by
  unfold sout0_A_0
  rw [View.read_writes_junk_eq_canon, runA_s0, canon8, shapeCast_self]
  rfl

/-- The codes left by a point (case B). -/
theorem out0_B_13_eq (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : ¬cond0_0 i) (hc1 : ¬cond0_1 i)
    (x0 : Vec Ideal S1 .f32) (x1 : Vec Ideal S1 .f32) (x2 : Vec Ideal S8 .f32) (x3 : Vec Ideal S1 .f32) (x4 : Vec Ideal S1 .f32) (x5 : Vec Ideal S512x5120 .bf16) (x6 : Vec Ideal S1x5120 .f32) (x7 : Vec Ideal S1x128 .f32) (x8 : Vec Ideal S1x128 .f32) (x9 : Vec Ideal S1x512x64 .f32) (x10 : Vec Ideal S1x512x64 .f32) (x11 : Vec Ideal S1x1x512 .f32) (x12 : Vec Ideal S5120x1280 .fp8e4m3) (xs0 : Vec Ideal S8x128 .f32) (xs1 : Vec Ideal S10x8x128 .f32) (y : S512x5120.Idx) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1 y = cVec x6 (x0 (ix1 0)) x5 y := by
  have hc := cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1 y
  unfold out0_B_13
  rw [View.read_writes_junk_eq_canon]
  rw [runB_13] at hc ⊢
  exact View.canon_apply_of_pieces (cVec x6 (x0 (ix1 0)) x5) _ (pcs_at x6 (x0 (ix1 0)) x5 640) y hc

/-- The maximum carried on by a point (case B). -/
theorem sout0_B_0_eq (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : ¬cond0_0 i) (hc1 : ¬cond0_1 i)
    (x0 : Vec Ideal S1 .f32) (x1 : Vec Ideal S1 .f32) (x2 : Vec Ideal S8 .f32) (x3 : Vec Ideal S1 .f32) (x4 : Vec Ideal S1 .f32) (x5 : Vec Ideal S512x5120 .bf16) (x6 : Vec Ideal S1x5120 .f32) (x7 : Vec Ideal S1x128 .f32) (x8 : Vec Ideal S1x128 .f32) (x9 : Vec Ideal S1x512x64 .f32) (x10 : Vec Ideal S1x512x64 .f32) (x11 : Vec Ideal S1x1x512 .f32) (x12 : Vec Ideal S5120x1280 .fp8e4m3) (xs0 : Vec Ideal S8x128 .f32) (xs1 : Vec Ideal S10x8x128 .f32) (y : S8x128.Idx) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1 y = mAt x6 x5 xs0 640 y := by
  unfold sout0_B_0
  rw [View.read_writes_junk_eq_canon, runB_s0, canon8, shapeCast_self]

/-- The codes left by a point (case C). -/
theorem out0_C_13_eq (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : ¬cond0_0 i) (hc1 : cond0_1 i)
    (x0 : Vec Ideal S1 .f32) (x1 : Vec Ideal S1 .f32) (x2 : Vec Ideal S8 .f32) (x3 : Vec Ideal S1 .f32) (x4 : Vec Ideal S1 .f32) (x5 : Vec Ideal S512x5120 .bf16) (x6 : Vec Ideal S1x5120 .f32) (x7 : Vec Ideal S1x128 .f32) (x8 : Vec Ideal S1x128 .f32) (x9 : Vec Ideal S1x512x64 .f32) (x10 : Vec Ideal S1x512x64 .f32) (x11 : Vec Ideal S1x1x512 .f32) (x12 : Vec Ideal S5120x1280 .fp8e4m3) (xs0 : Vec Ideal S8x128 .f32) (xs1 : Vec Ideal S10x8x128 .f32) (y : S512x5120.Idx) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1 y = cVec x6 (x0 (ix1 0)) x5 y := by
  have hc := cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1 y
  unfold out0_C_13
  rw [View.read_writes_junk_eq_canon]
  rw [runC_13] at hc ⊢
  exact View.canon_apply_of_pieces (cVec x6 (x0 (ix1 0)) x5) _ (pcs_at x6 (x0 (ix1 0)) x5 640) y hc

/-- The maximum carried on by a point (case C). -/
theorem sout0_C_0_eq (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : ¬cond0_0 i) (hc1 : cond0_1 i)
    (x0 : Vec Ideal S1 .f32) (x1 : Vec Ideal S1 .f32) (x2 : Vec Ideal S8 .f32) (x3 : Vec Ideal S1 .f32) (x4 : Vec Ideal S1 .f32) (x5 : Vec Ideal S512x5120 .bf16) (x6 : Vec Ideal S1x5120 .f32) (x7 : Vec Ideal S1x128 .f32) (x8 : Vec Ideal S1x128 .f32) (x9 : Vec Ideal S1x512x64 .f32) (x10 : Vec Ideal S1x512x64 .f32) (x11 : Vec Ideal S1x1x512 .f32) (x12 : Vec Ideal S5120x1280 .fp8e4m3) (xs0 : Vec Ideal S8x128 .f32) (xs1 : Vec Ideal S10x8x128 .f32) (y : S8x128.Idx) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1 y = mAt x6 x5 xs0 640 y := by
  unfold sout0_C_0
  rw [View.read_writes_junk_eq_canon, runC_s0, canon8, shapeCast_self]

/-- The largest of the carried maximum, stored by the last point. -/
theorem out0_C_17_eq (c : Dev nD) (i : grid0.Coords) (arg1 : Memref sig .tc .smem S1 .f32) (harg1 : arg1.IsWhole) (arg2 : Memref sig .tc .smem S1 .f32) (harg2 : arg2.IsWhole) (arg3 : Memref sig .tc .smem S8 .f32) (harg3 : arg3.IsWhole) (arg4 : Memref sig .tc .smem S1 .f32) (harg4 : arg4.IsWhole) (arg5 : Memref sig .tc .smem S1 .f32) (harg5 : arg5.IsWhole) (arg6 : Memref sig .tc .vmem S512x5120 .bf16) (harg6 : arg6.IsWhole) (arg7 : Memref sig .tc .vmem S1x5120 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512x64 .f32) (harg10 : arg10.IsWhole) (arg11 : Memref sig .tc .vmem S1x512x64 .f32) (harg11 : arg11.IsWhole) (arg12 : Memref sig .tc .vmem S1x1x512 .f32) (harg12 : arg12.IsWhole) (arg13 : Memref sig .tc .vmem S5120x1280 .fp8e4m3) (harg13 : arg13.IsWhole) (arg14 : Memref sig .tc .vmem S512x5120 .fp8e4m3) (harg14 : arg14.IsWhole) (arg15 : Memref sig .tc .vmem S512x1024 .fp8e4m3) (harg15 : arg15.IsWhole) (arg16 : Memref sig .tc .vmem S512x128 .fp8e4m3) (harg16 : arg16.IsWhole) (arg17 : Memref sig .tc .vmem S512x128 .fp8e4m3) (harg17 : arg17.IsWhole) (arg18 : Memref sig .tc .smem S1 .f32) (harg18 : arg18.IsWhole) (arg19 : Memref sig .tc .smem S8 .f32) (harg19 : arg19.IsWhole) (arg20 : Memref sig .tc .smem S1 .f32) (harg20 : arg20.IsWhole) (arg21 : Memref sig .tc .smem S1 .f32) (harg21 : arg21.IsWhole) (arg22 : Memref sig .tc .vmem S8x128 .f32) (harg22 : arg22.IsWhole) (arg23 : Memref sig .tc .vmem S10x8x128 .f32) (harg23 : arg23.IsWhole) (hc0 : ¬cond0_0 i) (hc1 : cond0_1 i)
    (x0 : Vec Ideal S1 .f32) (x1 : Vec Ideal S1 .f32) (x2 : Vec Ideal S8 .f32) (x3 : Vec Ideal S1 .f32) (x4 : Vec Ideal S1 .f32) (x5 : Vec Ideal S512x5120 .bf16) (x6 : Vec Ideal S1x5120 .f32) (x7 : Vec Ideal S1x128 .f32) (x8 : Vec Ideal S1x128 .f32) (x9 : Vec Ideal S1x512x64 .f32) (x10 : Vec Ideal S1x512x64 .f32) (x11 : Vec Ideal S1x1x512 .f32) (x12 : Vec Ideal S5120x1280 .fp8e4m3) (xs0 : Vec Ideal S8x128 .f32) (xs1 : Vec Ideal S10x8x128 .f32) (y : S1.Idx) :
    out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 xs0 xs1 y = k0_pay5 (mAt x6 x5 xs0 640) := by
  unfold out0_C_17
  rw [View.read_writes_junk_eq_canon, runC_17]
  exact congrFun (canon1 _) y

end Cert.QkvIdeal.Hand
-- ==== Proof.QkFin.lean ====
/- What the codes and the carried maximum hold after each point. -/
module

public import proofs.«01_k».proof.Proof.QkKer
public import proofs.«01_k».proof.Proof.GuMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Hand

open Cert.QkvIdeal Cert.QkvIdeal.Gen

variable (m : (ℓ : Loc nD τ sig) → Buf (Elt Ideal) ℓ)

/-- The index maps of the windows read or proved here, over all grid points. -/
theorem idx : ∀ t : Fin cfg0.N, win0_0.index t = ![0] ∧ win0_5.index t = ![t.val, 0] ∧ win0_6.index t = ![0, 0] ∧ win0_13.index t = ![t.val, 0] ∧ win0_17.index t = ![0] :=
  (by decide +kernel : ∀ t : Fin grid0.N, _)

/-- Row `i` of block `t`, as a row of the whole array. -/
def rowAt (t : Fin cfg0.N) (i : Fin 512) : Fin 16384 := ⟨512 * t.val + i.val, by have := lt_of_lt_of_eq t.isLt (show cfg0.N = 32 from N_0); omega⟩

/-- The input. -/
abbrev aX (c : Dev nD) : FVec Ideal S16384x5120 .bf16 := (m ((c : Thread nD τ).loc main_arg0))
/-- The weights of the normalisation. -/
abbrev aG (c : Dev nD) : FVec Ideal S1x5120 .f32 := (m ((c : Thread nD τ).loc main_arg1))
/-- The scale of the normalised array. -/
abbrev aXS (c : Dev nD) : FVec Ideal S1 .f32 := (m ((c : Thread nD τ).loc main_arg8))

/-- The normalised array, as the kernel computes it. -/
def zA (c : Dev nD) : FVec Ideal S16384x5120 .f32 := fun j =>
  aX m c (ix2 (j 0) (j 1)) * Ideal.div (Ideal.ofBits .f32 0x3F800000#32) (Ideal.sqrt ((∑ k : Fin 5120, aX m c (ix2 (j 0) k) * aX m c (ix2 (j 0) k))
    * (Named.named κ "inv_d" 0x394CCCCD#32 : Ideal .f32) + Ideal.ofBits .f32 0x358637BD#32)) * aG m c (ix2 0 (j 1))

/-- The codes of the normalised array. -/
def cA (c : Dev nD) : FVec Ideal S16384x5120 .fp8e4m3 := fun j =>
  min (Ideal.ofBits .f32 0x43E00000#32) (max (Ideal.ofBits .f32 0xC3E00000#32) (zA m c (ix2 (j 0) (j 1)) * Ideal.div (Ideal.ofBits .f32 0x3F800000#32) (aXS m c (ix1 0))))

/-- The normalised block is its rows of the whole. -/
theorem zT_at (c : Dev nD) (t : Fin cfg0.N) (i : Fin 512) (k : Fin 5120) : zVec (iblk m c 6 t) (iblk m c 5 t) (ix2 i k) = zA m c (ix2 (rowAt t i) k) := by
  unfold zVec zA rowAt
  blk_point [iblk, V, idx t]

/-- The scale's block is the scale. -/
theorem xs_at (c : Dev nD) (t : Fin cfg0.N) : iblk m c 0 t (ix1 0) = aXS m c (ix1 0) := by
  blk_point [iblk, V, idx t]

/-- The block's codes are its rows of the whole. -/
theorem cT_at (c : Dev nD) (t : Fin cfg0.N) (i : Fin 512) (k : Fin 5120) : cVec (iblk m c 6 t) (iblk m c 0 t (ix1 0)) (iblk m c 5 t) (ix2 i k) = cA m c (ix2 (rowAt t i) k) := by
  unfold cVec
  rw [zT_at, xs_at]
  rfl

/-- The codes after a point: their rows of the whole array. -/
theorem point_13 (c : Dev nD) (t : Fin cfg0.N) (i : Fin 512) (k : Fin 5120) : (outsAt0 m c t.val t.isLt).1 (ix2 i k) = cA m c (ix2 (rowAt t i) k) := by
  have hN : t.val < 32 := lt_of_lt_of_eq t.isLt (show cfg0.N = 32 from N_0)
  by_cases h0 : t.val % 32 = 0
  · rw [outsAt0_A m c t h0 (by omega)]
    dsimp only
    rw [out0_A_13_eq]
    exact cT_at m c t i k
  · by_cases h1 : t.val % 32 = 31
    · rw [outsAt0_C m c t h0 h1]
      dsimp only
      rw [out0_C_13_eq]
      exact cT_at m c t i k
    · rw [outsAt0_B m c t h0 h1]
      dsimp only
      rw [out0_B_13_eq]
      exact cT_at m c t i k

/-- The codes after the run: the whole array. -/
theorem final_13 (c : Dev nD) : (dats m 0 c).arrAt 13 (cfgs 0).N = cA m c := by
  refine (dats m 0 c).arrAt_eq_of_covers 13 _ (by decide +kernel) fun t hf y => ?_
  blk_simp
  rw [after0_13]
  obtain ⟨i, k, rfl⟩ : ∃ (i : Fin 512) (k : Fin 5120), y = ix2 i k := ⟨y 0, y 1, (ix2_eta y).symm⟩
  rw [point_13]
  refine congrArg (cA m c) ?_
  unfold rowAt
  blk_point [idx t]

/-- The carried maximum after position `n`. -/
abbrev carry0 (c : Dev nD) (n : ℕ) (hn : n < cfg0.N) : FVec Ideal S8x128 .f32 := (outsAt0 m c n hn).2.2.2.2.2.2.2.2.1

/-- The first point starts the carried maximum from zeros. -/
theorem carry0_first (c : Dev nD) (t : Fin cfg0.N) (h0 : t.val % 32 = 0) : carry0 m c t.val t.isLt = mAt (iblk m c 6 t) (iblk m c 5 t) zero8 640 := by
  funext y
  unfold carry0
  rw [outsAt0_A m c t h0 (by omega)]
  dsimp only
  rw [sout0_A_0_eq]

/-- A later point extends what the point before left. -/
theorem carry0_next (c : Dev nD) (t : Fin cfg0.N) (h0 : ¬t.val % 32 = 0) :
    carry0 m c t.val t.isLt = mAt (iblk m c 6 t) (iblk m c 5 t) (carry0 m c (t.val - 1) (Nat.lt_of_le_of_lt (Nat.sub_le _ _) t.isLt)) 640 := by
  funext y
  unfold carry0
  by_cases h1 : t.val % 32 = 31
  · rw [outsAt0_C m c t h0 h1]
    dsimp only
    rw [sout0_C_0_eq]
  · rw [outsAt0_B m c t h0 h1]
    dsimp only
    rw [sout0_B_0_eq]

/-- One point's rows bound the maximum it carries. -/
theorem carry0_step (c : Dev nD) (t : Fin cfg0.N) (acc : FVec Ideal S8x128 .f32) (b : EReal) :
    (∀ (i : Fin 8) (l : Fin 128), mAt (iblk m c 6 t) (iblk m c 5 t) acc 640 (ix2 i l) ≤ b)
      ↔ (∀ (i : Fin 8) (l : Fin 128), acc (ix2 i l) ≤ b) ∧ ∀ (i : Fin 512) (k : Fin 5120), max (zA m c (ix2 (rowAt t i) k)) (-(zA m c (ix2 (rowAt t i) k))) ≤ b := by
  rw [mAll_le]
  refine and_congr_right fun _ => forall_congr' fun i => forall_congr' fun k => ?_
  rw [zT_at]

/-- The carried maximum is at most a bound when the magnitudes of all the rows so far are. -/
theorem carry0_le (c : Dev nD) (b : EReal) : ∀ (n : ℕ) (hn : n < cfg0.N), (∀ (i : Fin 8) (l : Fin 128), carry0 m c n hn (ix2 i l) ≤ b)
    ↔ 0 ≤ b ∧ ∀ s : Fin cfg0.N, s.val ≤ n → ∀ (i : Fin 512) (k : Fin 5120), max (zA m c (ix2 (rowAt s i) k)) (-(zA m c (ix2 (rowAt s i) k))) ≤ b := by
  intro n
  induction n with
  | zero =>
    intro hn
    have e := carry0_first m c ⟨0, hn⟩ rfl
    rw [show carry0 m c 0 hn = _ from e, carry0_step]
    simp only [zero8_at]
    constructor
    · rintro ⟨h, g⟩
      refine ⟨h 0 0, fun s hs => ?_⟩
      obtain rfl : s = ⟨0, hn⟩ := Fin.ext (Nat.le_zero.mp hs)
      exact g
    · rintro ⟨h, g⟩
      exact ⟨fun _ _ => h, g ⟨0, hn⟩ le_rfl⟩
  | succ n ih =>
    intro hn
    have hN : n + 1 < 32 := lt_of_lt_of_eq hn (show cfg0.N = 32 from N_0)
    have e := carry0_next m c ⟨n + 1, hn⟩ (by show ¬(n + 1) % 32 = 0; omega)
    rw [show carry0 m c (n + 1) hn = _ from e, carry0_step]
    refine (and_congr_left' (ih (Nat.lt_of_succ_lt hn))).trans ?_
    constructor
    · rintro ⟨⟨h, g⟩, g'⟩
      refine ⟨h, fun s hs => ?_⟩
      rcases Nat.lt_or_ge n s.val with hs' | hs'
      · obtain rfl : s = ⟨n + 1, hn⟩ := Fin.ext (by show s.val = n + 1; omega)
        exact g'
      · exact g s hs'
    · rintro ⟨h, g⟩
      exact ⟨⟨h, fun s hs => g s (Nat.le_succ_of_le hs)⟩, g ⟨n + 1, hn⟩ le_rfl⟩

/-- After the last point the carried maximum is at most a bound when the magnitudes of the whole array are. -/
theorem carry0_last (c : Dev nD) (b : EReal) (t : Fin cfg0.N) (ht : t.val % 32 = 31) : (∀ (i : Fin 8) (l : Fin 128), carry0 m c t.val t.isLt (ix2 i l) ≤ b)
    ↔ ∀ (p : Fin 16384) (k : Fin 5120), max (zA m c (ix2 p k)) (-(zA m c (ix2 p k))) ≤ b := by
  have hN : t.val < 32 := lt_of_lt_of_eq t.isLt (show cfg0.N = 32 from N_0)
  rw [carry0_le]
  constructor
  · rintro ⟨_, g⟩ p k
    have hp : p.val / 512 < cfg0.N := lt_of_lt_of_eq (show p.val / 512 < 32 by omega) (show cfg0.N = 32 from N_0).symm
    have := g ⟨p.val / 512, hp⟩ (by show p.val / 512 ≤ t.val; omega) ⟨p.val % 512, Nat.mod_lt _ (by decide)⟩ k
    rwa [show rowAt ⟨p.val / 512, hp⟩ ⟨p.val % 512, Nat.mod_lt _ (by decide)⟩ = p from Fin.ext (Nat.div_add_mod _ _)] at this
  · intro g
    exact ⟨(Cert.Math.max_neg_nonneg _).trans (g ⟨0, by decide⟩ ⟨0, by decide⟩), fun s _ i k => g _ k⟩

/-- The largest of the carried maximum, at a bound. -/
theorem pay2_le (v : FVec Ideal S8x128 .f32) (b : EReal) : k0_pay5 (F := Ideal) v ≤ b ↔ ∀ (i : Fin 8) (l : Fin 128), v (ix2 i l) ≤ b := by
  have h : k0_pay5 (F := Ideal) v = Finset.fold max ⊥ (fun x : Fin 8 × Fin 128 => v (ix2 x.1 x.2)) Finset.univ := by
    pointwise [k0_pay5]
    rw [Cert.Math.neg_inf_val]
  rw [h, Cert.Math.fold_max_le]
  exact Prod.forall

end Cert.QkvIdeal.Hand
-- ==== Proof.QkRef.lean ====
/- The arrays the reference of the first normalisation leaves. -/
module

public import proofs.«01_k».proof.Proof.Gen.QkvRefIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvRefIdeal.Hand

open Cert.QkvRefIdeal Cert.QkvRefIdeal.Gen

variable (m : (ℓ : Loc nD τ sig) → Buf (Elt Ideal) ℓ)

/-- The rows of the input over the root of their mean square, times the weights. -/
def nOf (h : FVec Ideal S16384x5120 .bf16) (g : FVec Ideal S1x5120 .f32) : FVec Ideal S16384x5120 .f32 := fun j =>
  Ideal.div (h (ix2 (j 0) (j 1))) (Ideal.sqrt (Ideal.div (∑ k : Fin 5120, h (ix2 (j 0) k) * h (ix2 (j 0) k)) (Ideal.ofBits .f32 0x45A00000#32)
    + Ideal.ofBits .f32 0x358637BD#32)) * g (ix2 0 (j 1))

/-- The codes: over the scale and clipped. -/
def cOf (n : FVec Ideal S16384x5120 .f32) (s : FVec Ideal S1 .f32) : FVec Ideal S16384x5120 .fp8e4m3 := fun j =>
  min (Ideal.ofBits .f32 0x43E00000#32) (max (Ideal.ofBits .f32 0xC3E00000#32) (Ideal.div (n (ix2 (j 0) (j 1))) (s (ix1 0))))

/-- The largest magnitude of an array, from minus infinity up. -/
def amaxN (n : FVec Ideal S16384x5120 .f32) : FVec Ideal S1 .f32 := fun _ =>
  Finset.fold max (Ideal.ofBits .f32 0xFF800000#32) (fun x : Fin 16384 × Fin 5120 => max (n (ix2 x.1 x.2)) (-(n (ix2 x.1 x.2)))) Finset.univ

/-- The normalised array, as the program computes it. -/
theorem pay1_eq (v0 : Vec Ideal S16384x5120 .bf16) (v2 : Vec Ideal S1x5120 .f32) : k0_pay1 v0 v2 = nOf v0 v2 := by
  funext y
  pointwise [k0_pay1, nOf]

/-- The codes, as the program computes them. -/
theorem pay2_eq (v0 : Vec Ideal S16384x5120 .bf16) (v2 : Vec Ideal S1x5120 .f32) (s : FVec Ideal S1 .f32) : k0_pay2 v0 v2 (s (ix1 0)) = cOf (nOf v0 v2) s := by
  unfold k0_pay2
  rw [pay1_eq]
  generalize nOf v0 v2 = n
  funext y
  pointwise [cOf]

/-- The largest magnitude, as the program computes it. -/
theorem pay3_eq (v0 : Vec Ideal S16384x5120 .bf16) (v2 : Vec Ideal S1x5120 .f32) (y : S1.Idx) : k0_pay3 v0 v2 = amaxN (nOf v0 v2) y := by
  unfold k0_pay3
  rw [pay1_eq]
  generalize nOf v0 v2 = n
  pointwise [amaxN]
  rfl

/-- A scalar read out of a buffer of one word. -/
theorem ldS (x : Vec Ideal S1 .f32) (h) : View.ld x (Rect.unit ![0] ![1] inb_S1_S1_0) (Shape.Idx.first h) = x (ix1 0) :=
  congrArg x (funext fun a => Fin.ext (by fin_cases a; rfl))

/-- The codes left by the one point. -/
theorem block_3 (c : Dev nD) (arg0 : Memref sig .tc .smem S1 .f32) (harg0 : arg0.IsWhole) (arg1 : Memref sig .tc .vmem S16384x5120 .bf16) (harg1 : arg1.IsWhole) (arg2 : Memref sig .tc .vmem S1x5120 .f32) (harg2 : arg2.IsWhole)
    (arg3 : Memref sig .tc .vmem S16384x5120 .fp8e4m3) (harg3 : arg3.IsWhole) (arg4 : Memref sig .tc .smem S1 .f32) (harg4 : arg4.IsWhole)
    (x0 : Vec Ideal S1 .f32) (x1 : Vec Ideal S16384x5120 .bf16) (x2 : Vec Ideal S1x5120 .f32) (y : S16384x5120.Idx) :
    out0_A_3 c arg0 harg0 arg1 harg1 arg2 harg2 arg3 harg3 arg4 harg4 x0 x1 x2 y = cOf (nOf x1 x2) x0 y := by
  frame_out
  rw [ldS, pay2_eq]

/-- The largest magnitude of the normalised array. -/
theorem block_4 (c : Dev nD) (arg0 : Memref sig .tc .smem S1 .f32) (harg0 : arg0.IsWhole) (arg1 : Memref sig .tc .vmem S16384x5120 .bf16) (harg1 : arg1.IsWhole) (arg2 : Memref sig .tc .vmem S1x5120 .f32) (harg2 : arg2.IsWhole)
    (arg3 : Memref sig .tc .vmem S16384x5120 .fp8e4m3) (harg3 : arg3.IsWhole) (arg4 : Memref sig .tc .smem S1 .f32) (harg4 : arg4.IsWhole)
    (x0 : Vec Ideal S1 .f32) (x1 : Vec Ideal S16384x5120 .bf16) (x2 : Vec Ideal S1x5120 .f32) (y : S1.Idx) :
    out0_A_4 c arg0 harg0 arg1 harg1 arg2 harg2 arg3 harg3 arg4 harg4 x0 x1 x2 y = amaxN (nOf x1 x2) y := by
  frame_out
  exact pay3_eq x1 x2 y

/-- The index maps of the windows: one block each, the whole array. -/
theorem idx : ∀ t : Fin cfg0.N, win0_0.index t = ![0] ∧ win0_1.index t = ![0, 0] ∧ win0_2.index t = ![0, 0] ∧ win0_3.index t = ![0, 0] ∧ win0_4.index t = ![0] :=
  (by decide +kernel : ∀ t : Fin grid0.N, _)

/-- Each window of the one point is its whole array. -/
theorem whole (c : Dev nD) (t : Fin cfg0.N) : iblk m c 0 t = (m ((c : Thread nD τ).loc main_arg8)) ∧ iblk m c 1 t = (m ((c : Thread nD τ).loc main_arg0)) ∧ iblk m c 2 t = (m ((c : Thread nD τ).loc main_arg1)) := by
  refine ⟨?_, ?_, ?_⟩ <;> funext y <;> blk_point [iblk, V, idx t]

/-- The codes after the run. -/
theorem final_3 (c : Dev nD) : (dats m 0 c).arrAt 3 (cfgs 0).N
    = cOf (nOf (m ((c : Thread nD τ).loc main_arg0)) (m ((c : Thread nD τ).loc main_arg1))) (m ((c : Thread nD τ).loc main_arg8)) := by
  refine (dats m 0 c).arrAt_eq_of_covers 3 _ (by decide +kernel) fun t hf y => ?_
  obtain ⟨e0, e1, e2⟩ := whole m c t
  blk_simp
  rw [after0_3]
  unfold outsAt0
  dsimp only
  rw [block_3, e0, e1, e2]
  generalize cOf (nOf (m ((c : Thread nD τ).loc main_arg0)) (m ((c : Thread nD τ).loc main_arg1))) (m ((c : Thread nD τ).loc main_arg8)) = v
  blk_point [idx t]

/-- The largest magnitude after the run. -/
theorem final_4 (c : Dev nD) : (dats m 0 c).arrAt 4 (cfgs 0).N = amaxN (nOf (m ((c : Thread nD τ).loc main_arg0)) (m ((c : Thread nD τ).loc main_arg1))) := by
  refine (dats m 0 c).arrAt_eq_of_covers 4 _ (by decide +kernel) fun t hf y => ?_
  obtain ⟨e0, e1, e2⟩ := whole m c t
  blk_simp
  rw [after0_4]
  unfold outsAt0
  dsimp only
  rw [block_4, e1, e2]
  generalize amaxN (nOf (m ((c : Thread nD τ).loc main_arg0)) (m ((c : Thread nD τ).loc main_arg1))) = v
  blk_point [idx t]

end Cert.QkvRefIdeal.Hand
-- ==== Proof.QkEq.lean ====
/- The kernel's arrays are the reference's, when the scale is not zero. -/
module

public import proofs.«01_k».proof.Proof.QkFin
public import proofs.«01_k».proof.Proof.QkRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Hand

open Cert.QkvIdeal Cert.QkvIdeal.Gen

open Cert.QkvRefIdeal.Hand (nOf cOf amaxN)

variable (m : (ℓ : Loc nD τ sig) → Buf (Elt Ideal) ℓ)

/-- The value of the constant standing for one over the row length. -/
theorem inv_len : (Named.named κ "inv_d" 0x394CCCCD#32 : Ideal .f32) = ((1 / 5120 : ℝ) : EReal) := IdealRules.named_const.ideal_named_scalar _ _ _ _ rfl

/-- The reference's normalised array, of the kernel's arguments. -/
abbrev nA (c : Dev nD) : FVec Ideal S16384x5120 .f32 := nOf (aX m c) (aG m c)

/-- The kernel's normalised value is the reference's. -/
theorem zA_eq (c : Dev nD) (p : Fin 16384) (k : Fin 5120) : zA m c (ix2 p k) = nA m c (ix2 p k) := by
  obtain ⟨e, he, ev⟩ := Cert.Math.eps_pos
  have key := Cert.Math.div_root_mean (Cert.Math.sq_nonneg Finset.univ (fun k : Fin 5120 => aX m c (ix2 p k))) he (aX m c (ix2 p k)) (aG m c (ix2 0 k))
  rw [← inv_len, ← Cert.Math.len_val, ← ev, ← Cert.Math.one_val] at key
  exact key

/-- The kernel's codes are the reference's. -/
theorem cA_eq (c : Dev nD) (hx : aXS m c (ix1 0) ≠ 0) : cA m c = cOf (nA m c) (aXS m c) := by
  funext j
  unfold cA cOf
  rw [Cert.Math.one_val, Cert.Math.mul_div_one hx]
  exact congrArg (fun z : EReal => min (Ideal.ofBits .f32 0x43E00000#32) (max (Ideal.ofBits .f32 0xC3E00000#32) (Ideal.div z (aXS m c (ix1 0))))) (zA_eq m c (j 0) (j 1))

/-- The largest magnitude is written back after the last point only. -/
theorem flush_last : ∀ t : Fin cfg0.N, win0_17.flush t = true → t.val % 32 = 31 :=
  (by decide +kernel : ∀ t : Fin grid0.N, _)

/-- The largest of the carried maximum is the largest magnitude. -/
theorem amax_n (c : Dev nD) (t : Fin cfg0.N) (ht : t.val % 32 = 31) (y : S1.Idx) :
    k0_pay5 (F := Ideal) (carry0 m c t.val t.isLt) = amaxN (nA m c) y := by
  refine eq_of_forall_ge_iff fun b => ?_
  rw [pay2_le, carry0_last m c _ t ht]
  unfold amaxN
  rw [Cert.Math.neg_inf_val, Cert.Math.fold_max_le, Prod.forall]
  refine forall_congr' fun p => forall_congr' fun k => ?_
  rw [zA_eq]

/-- The largest magnitude of the normalised array, after the run. -/
theorem final_17 (c : Dev nD) : (dats m 0 c).arrAt 17 (cfgs 0).N = amaxN (nA m c) := by
  refine (dats m 0 c).arrAt_eq_of_covers 17 _ (by decide +kernel) fun t hf y => ?_
  have ht : t.val % 32 = 31 := flush_last t hf
  blk_simp
  rw [after0_17, outsAt0_C m c t (by omega) ht]
  dsimp only
  rw [out0_C_17_eq]
  exact (congrArg (fun v => k0_pay5 (F := Ideal) v) (carry0_next m c t (by omega)).symm).trans (amax_n m c t ht _)

end Cert.QkvIdeal.Hand
-- ==== Proof.QkClaim.lean ====
/- The claim about the first normalisation: the kernel's codes and largest magnitude are the reference's. -/
module

public import proofs.«01_k».proof.Defs
public import proofs.«01_k».proof.Proof.QkEq
public import Idealize.ShloMosaic.Lib.Claim

@[expose] public section

set_option maxRecDepth 16384

noncomputable section

open Idealize.ShloMosaic Idealize.SL.Sem

namespace Cert.QkvHand

/-- The bit of a truth value is one only when it is true. -/
theorem bit_one {b : Bool} (h : BitVec.ofBool b = 1#1) : b = true := by
  revert b
  decide

/-- The precondition says that the scale is not zero. -/
theorem scale [Cert.Pre_nonzero_scale.Facts] {m} (h : Cert.Pre_QkvIdeal_nonzero_scale m) (c : Dev Cert.QkvIdeal.nD) : Cert.QkvIdeal.Hand.aXS m c (ix1 0) ≠ 0 := by
  have e := congrFun (h c) (ix1 0)
  unfold Cert.Pre_nonzero_scale.fn at e
  simp only [cmpf, broadcastInDim, constant] at e
  have z : Ideal.ofBits .f32 0x00000000#32 = 0 := by simp
  have := of_decide_eq_true (bit_one e)
  rwa [Ideal.ofBits_def, z] at this

set_option maxHeartbeats 4000000 in
/-- The first normalisation and its codes: kernel and reference end with the same results. -/
theorem algebraic [Cert.Pre_nonzero_scale.Facts] : Cert.algebraic_QkvIdeal_QkvRefIdeal_pre_nonzero_scale := by
  pair_intro
  · run_from Cert.QkvIdeal.Gen.run_main m g
    exact hc.1 17
  · run_from Cert.QkvRefIdeal.Gen.run_main m' g'
    all_goals
      obtain ⟨h0, h1, h2, h3, h4, h5, h6, h7, h8, h9, h10, h11, h12⟩ := hagree c
      have hx := scale hpre c
    · rw [Cert.QkvRefIdeal.Hand.final_3, Cert.QkvIdeal.Hand.final_13, Cert.QkvIdeal.Hand.cA_eq m c hx, h0, h1, h8]
    · rw [Cert.QkvRefIdeal.Hand.final_4, Cert.QkvIdeal.Hand.final_17, h0, h1]

end Cert.QkvHand
-- ==== Proof.lean ====
/- The certificate: the calls of the layer before and after the attention. -/
module

public import proofs.«01_k».proof.Defs
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.Gu
public import proofs.«01_k».proof.Proof.Gen.Gu.Skeleton
public import proofs.«01_k».proof.Proof.Gen.Gu.Launch
public import proofs.«01_k».proof.Proof.Gen.Gu.Points
public import proofs.«01_k».proof.Proof.Gen.Gu.Frame
public import proofs.«01_k».proof.Proof.Gen.GuIdeal
public import proofs.«01_k».proof.Proof.Gen.GuIdeal.Skeleton
public import proofs.«01_k».proof.Proof.Gen.GuIdeal.Launch
public import proofs.«01_k».proof.Proof.Gen.GuIdeal.Points
public import proofs.«01_k».proof.Proof.Gen.GuIdeal.Frame
public import proofs.«01_k».proof.Proof.Gen.GuRefIdeal
public import proofs.«01_k».proof.Proof.Gen.GuRefIdeal.Skeleton
public import proofs.«01_k».proof.Proof.Gen.GuRefIdeal.Launch
public import proofs.«01_k».proof.Proof.Gen.GuRefIdeal.Points
public import proofs.«01_k».proof.Proof.Gen.GuRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.Pre_nonzero_scale
public import proofs.«01_k».proof.Proof.Gen.Pre_proper_scales
public import Idealize.ShloMosaic.Adequacy
public import Idealize.ShloMosaic.Init
public import proofs.«01_k».proof.Proof.Gen.QkvIdeal.Value
public import proofs.«01_k».proof.Proof.Gen.QkvRefIdeal.Value
public import proofs.«01_k».proof.Proof.Gen.GuIdeal.Value
public import proofs.«01_k».proof.Proof.Gen.GuRefIdeal.Value
public import proofs.«01_k».proof.Proof.Gen.DownIdeal.Value
public import proofs.«01_k».proof.Proof.Gen.DownRefIdeal.Value
public import proofs.«01_k».proof.Proof.DownClaim
public import proofs.«01_k».proof.Proof.GuClaim
public import proofs.«01_k».proof.Proof.QkClaim

@[expose] public section

noncomputable section

open Idealize.ShloMosaic

namespace Cert.Proof

/-- The claims: the frames of the nine programs, and for each of the three calls that its ideal program is the kernel
over the extended reals and ends with the reference's arrays. -/
theorem claim : Cert.Claim :=
  ⟨Cert.Qkv.Gen.facts, Cert.QkvIdeal.Gen.facts, Cert.QkvRefIdeal.Gen.facts, Cert.Gu.Gen.facts, Cert.GuIdeal.Gen.facts, Cert.GuRefIdeal.Gen.facts, Cert.Down.Gen.facts, Cert.DownIdeal.Gen.facts,
    Cert.DownRefIdeal.Gen.facts, Cert.Pre_nonzero_scale.Gen.facts, Cert.Pre_proper_scales.Gen.facts,
    fun m ρ _ => Cert.Qkv.Gen.frame m ρ,
    fun m ρ _ => Cert.QkvIdeal.Gen.frame m ρ,
    fun m ρ _ => Cert.QkvIdeal.Gen.frame m ρ,
    fun m ρ _ => Cert.QkvRefIdeal.Gen.frame m ρ,
    fun m ρ _ => Cert.QkvRefIdeal.Gen.frame m ρ,
    fun m ρ _ => Cert.Gu.Gen.frame m ρ,
    fun m ρ _ => Cert.GuIdeal.Gen.frame m ρ,
    fun m ρ _ => Cert.GuIdeal.Gen.frame m ρ,
    fun m ρ _ => Cert.GuRefIdeal.Gen.frame m ρ,
    fun m ρ _ => Cert.GuRefIdeal.Gen.frame m ρ,
    fun m ρ _ => Cert.Down.Gen.frame m ρ,
    fun m ρ _ => Cert.DownIdeal.Gen.frame m ρ,
    fun m ρ _ => Cert.DownRefIdeal.Gen.frame m ρ,
    IdealRules.named_const.statement Cert.QkvIdeal.κ "inv_d" .f32 0x394CCCCD#32 ((1 / 5120 : ℝ) : EReal) rfl,
    Cert.QkvHand.algebraic,
    ⟨IdealRules.named_const.statement Cert.GuIdeal.κ "inv_d" .f32 0x394CCCCD#32 ((1 / 5120 : ℝ) : EReal) rfl,
      IdealRules.named_const.statement Cert.GuIdeal.κ "neg_log2e" .f32 0xBFB8AA3B#32 ((-((Real.log 2)⁻¹) : ℝ) : EReal) rfl⟩,
    Cert.GuHand.algebraic,
    trivial,
    Cert.DownHand.algebraic⟩

end Cert.Proof
